-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_in_range [hPre_x_in_range : Cert.Pre_x_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_range [hPre_x_in_range : Cert.Pre_x_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_in_range [hKernelIdeal : Cert.KernelIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_in_range [hReferenceIdeal : Cert.ReferenceIdeal.Facts] [hPre_x_in_range : Cert.Pre_x_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_in_range [hKernelIdeal : Cert.KernelIdeal.Facts] [hReferenceIdeal : Cert.ReferenceIdeal.Facts] [hPre_x_in_range : Cert.Pre_x_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_in_range : Cert.Pre_x_in_range.Facts),
    quiescent_Kernel (hKernel := hKernel)
    ∧ quiescent_KernelIdeal (hKernelIdeal := hKernelIdeal)
    ∧ quiescent_KernelIdeal_pre_x_in_range (hKernelIdeal := hKernelIdeal) (hPre_x_in_range := hPre_x_in_range)
    ∧ quiescent_ReferenceIdeal (hReferenceIdeal := hReferenceIdeal)
    ∧ quiescent_ReferenceIdeal_pre_x_in_range (hReferenceIdeal := hReferenceIdeal) (hPre_x_in_range := hPre_x_in_range)
    ∧ preserves_Kernel_KernelIdeal
    ∧ algebraic_KernelIdeal_ReferenceIdeal_pre_x_in_range (hKernelIdeal := hKernelIdeal) (hReferenceIdeal := hReferenceIdeal) (hPre_x_in_range := hPre_x_in_range)
-- ==== Pre_x_in_range.lean ====
abbrev S1x768x2688 : Shape := ⟨3, ![1, 768, 2688]⟩
abbrev S2688x12672 : Shape := ⟨2, ![2688, 12672]⟩
abbrev S84x12672 : Shape := ⟨2, ![84, 12672]⟩
abbrev S_ : Shape := ⟨0, ![]⟩

class Facts : Prop where
  bcast_S_S1x768x2688 : S_.BroadcastsInDim S1x768x2688 (![] : Fin 0 → Fin S1x768x2688.rank)

variable [Facts]

def fn {F : FTy → Type} [FloatOps F] (main_arg0 : FVec F S1x768x2688 .bf16) (main_arg1 : FVec F S2688x12672 .fp8e4m3) (main_arg2 : IVec S84x12672 8) : IVec S1x768x2688 1 :=
  let main_v0 : FVec F S1x768x2688 .bf16 := Host.absf main_arg0
  let main_cst : FVec F S_ .bf16 := constant S_ .bf16 0x7F7F#16
  let main_v1 : FVec F S1x768x2688 .bf16 := broadcastInDim S1x768x2688 ![] bcast_S_S1x768x2688 main_cst
  let main_v2 : IVec S1x768x2688 1 := cmpf .ole main_v0 main_v1
  let main_v3 : FVec F S1x768x2688 .bf16 := Host.absf main_arg0
  let main_cst_0 : FVec F S_ .bf16 := constant S_ .bf16 0x7F80#16
  let main_v4 : FVec F S1x768x2688 .bf16 := broadcastInDim S1x768x2688 ![] bcast_S_S1x768x2688 main_cst_0
  let main_v5 : IVec S1x768x2688 1 := cmpf .oeq main_v3 main_v4
  let main_v6 : IVec S1x768x2688 1 := ori main_v2 main_v5
  main_v6
-- ==== Kernel.lean ====
abbrev S1x768x2688 : Shape := ⟨3, ![1, 768, 2688]⟩
abbrev S2688x12672 : Shape := ⟨2, ![2688, 12672]⟩
abbrev S84x12672 : Shape := ⟨2, ![84, 12672]⟩
abbrev S768x2688 : Shape := ⟨2, ![768, 2688]⟩
abbrev S768x12672 : Shape := ⟨2, ![768, 12672]⟩
abbrev S768x1 : Shape := ⟨2, ![768, 1]⟩
abbrev S2688x512 : Shape := ⟨2, ![2688, 512]⟩
abbrev S84x512 : Shape := ⟨2, ![84, 512]⟩
abbrev S768x512 : Shape := ⟨2, ![768, 512]⟩
abbrev S96x2688 : Shape := ⟨2, ![96, 2688]⟩
abbrev S96 : Shape := ⟨1, ![96]⟩
abbrev S96x1 : Shape := ⟨2, ![96, 1]⟩
abbrev S96x256 : Shape := ⟨2, ![96, 256]⟩
abbrev S84x32x512 : Shape := ⟨3, ![84, 32, 512]⟩
abbrev S84x1x512 : Shape := ⟨3, ![84, 1, 512]⟩

abbrev nBuf : Space → Nat
  | .hbm => 7
  | .vmem => 10
  | .smem => 0
  | _ => 0

abbrev bufTy : (tb : Table) → Fin (tcTables nBuf tb) → BufTy
  | .hbm, ⟨0, _⟩ => ⟨S1x768x2688, .bf16⟩
  | .hbm, ⟨1, _⟩ => ⟨S2688x12672, .fp8e4m3⟩
  | .hbm, ⟨2, _⟩ => ⟨S84x12672, .i8⟩
  | .hbm, ⟨3, _⟩ => ⟨S768x2688, .bf16⟩
  | .hbm, ⟨4, _⟩ => ⟨S768x12672, .bf16⟩
  | .hbm, ⟨5, _⟩ => ⟨S768x2688, .fp8e4m3⟩
  | .hbm, ⟨6, _⟩ => ⟨S768x1, .f32⟩
  | .local _ .vmem, ⟨0, _⟩ => ⟨S768x2688, .bf16⟩
  | .local _ .vmem, ⟨1, _⟩ => ⟨S2688x512, .fp8e4m3⟩
  | .local _ .vmem, ⟨2, _⟩ => ⟨S2688x512, .fp8e4m3⟩
  | .local _ .vmem, ⟨3, _⟩ => ⟨S84x512, .i8⟩
  | .local _ .vmem, ⟨4, _⟩ => ⟨S84x512, .i8⟩
  | .local _ .vmem, ⟨5, _⟩ => ⟨S768x512, .bf16⟩
  | .local _ .vmem, ⟨6, _⟩ => ⟨S768x512, .bf16⟩
  | .local _ .vmem, ⟨7, _⟩ => ⟨S768x2688, .fp8e4m3⟩
  | .local _ .vmem, ⟨8, _⟩ => ⟨S768x1, .f32⟩
  | .local _ .vmem, ⟨9, _⟩ => ⟨S768x2688, .bf16⟩
  | _, _ => ⟨S1x768x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x2688 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2688x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S84x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x2688 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x768x2688 : Shape := ⟨3, ![1, 768, 2688]⟩
abbrev S2688x12672 : Shape := ⟨2, ![2688, 12672]⟩
abbrev S84x12672 : Shape := ⟨2, ![84, 12672]⟩
abbrev S768x2688 : Shape := ⟨2, ![768, 2688]⟩
abbrev S768x12672 : Shape := ⟨2, ![768, 12672]⟩
abbrev S768x1 : Shape := ⟨2, ![768, 1]⟩
abbrev S768 : Shape := ⟨1, ![768]⟩
abbrev S84x32x12672 : Shape := ⟨3, ![84, 32, 12672]⟩
abbrev S84x1x12672 : Shape := ⟨3, ![84, 1, 12672]⟩

abbrev nBuf : Space → Nat
  | .hbm => 7
  | .vmem => 6
  | .smem => 0
  | _ => 0

abbrev bufTy : (tb : Table) → Fin (tcTables nBuf tb) → BufTy
  | .hbm, ⟨0, _⟩ => ⟨S1x768x2688, .bf16⟩
  | .hbm, ⟨1, _⟩ => ⟨S2688x12672, .fp8e4m3⟩
  | .hbm, ⟨2, _⟩ => ⟨S84x12672, .i8⟩
  | .hbm, ⟨3, _⟩ => ⟨S768x2688, .bf16⟩
  | .hbm, ⟨4, _⟩ => ⟨S768x12672, .bf16⟩
  | .hbm, ⟨5, _⟩ => ⟨S768x2688, .fp8e4m3⟩
  | .hbm, ⟨6, _⟩ => ⟨S768x1, .f32⟩
  | .local _ .vmem, ⟨0, _⟩ => ⟨S768x2688, .bf16⟩
  | .local _ .vmem, ⟨1, _⟩ => ⟨S2688x12672, .fp8e4m3⟩
  | .local _ .vmem, ⟨2, _⟩ => ⟨S84x12672, .i8⟩
  | .local _ .vmem, ⟨3, _⟩ => ⟨S768x12672, .bf16⟩
  | .local _ .vmem, ⟨4, _⟩ => ⟨S768x2688, .fp8e4m3⟩
  | .local _ .vmem, ⟨5, _⟩ => ⟨S768x1, .f32⟩
  | _, _ => ⟨S1x768x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S768x2688 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2688x12672 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S84x12672 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x12672 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x2688 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/-
  The kernel's body, run once at a grid point.  At the first point the body quantises the activations in eight chunks of
  96 rows, leaving the fp8 codes and the scale of every row in the two buffers that are written back at the end and the
  codes once more, as bfloat16, in the scratch buffer; at every point it multiplies the scratch by one block of columns
  of the dequantised weight.  `codesOf`, `scaleOf`, `scratchOf` and `yBlock` name what is left where.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.Tactic.Stretches
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What one chunk of rows becomes -/

/-- The scale of each of 96 rows. -/
def chunkScale (v : Vec F S96x2688 .bf16) : Vec F S96x1 .f32 := k0_pay5 v
/-- The fp8 codes of 96 rows. -/
def chunkCodes (v : Vec F S96x2688 .bf16) : Vec F S96x2688 .fp8e4m3 := k0_pay9 (k0_pay6 v) (k0_pay7 v) k0_pay8
/-- The codes of 96 rows as bfloat16. -/
def chunkScratch (v : Vec F S96x2688 .bf16) : Vec F S96x2688 .bf16 := k0_pay10 (k0_pay6 v) (k0_pay7 v) k0_pay8

/-! ## What all the rows become -/

/-- Rows 96 b, …, 96 b + 95. -/
def rows (X : Vec F S768x2688 .bf16) (b : Fin 8) : Vec F S96x2688 .bf16 :=
  fun z => X (fun | 0 => ⟨96 * b.val + (z 0).val, by have := (z 0).isLt; have := b.isLt; simp at *; omega⟩ | 1 => z 1)
/-- The chunk a row lies in. -/
def chunkOf (r : Fin 768) : Fin 8 := ⟨r.val / 96, by omega⟩
/-- The row's place in its chunk. -/
def inChunk (r : Fin 768) : Fin 96 := ⟨r.val % 96, by omega⟩

/-- The scale of every row. -/
def scaleOf (X : Vec F S768x2688 .bf16) : Vec F S768x1 .f32 :=
  fun y => chunkScale (rows X (chunkOf (y 0))) (fun | 0 => inChunk (y 0) | 1 => y 1)
/-- The codes of every row. -/
def codesOf (X : Vec F S768x2688 .bf16) : Vec F S768x2688 .fp8e4m3 :=
  fun y => chunkCodes (rows X (chunkOf (y 0))) (fun | 0 => inChunk (y 0) | 1 => y 1)
/-- The codes of every row as bfloat16. -/
def scratchOf (X : Vec F S768x2688 .bf16) : Vec F S768x2688 .bf16 :=
  fun y => chunkScratch (rows X (chunkOf (y 0))) (fun | 0 => inChunk (y 0) | 1 => y 1)

/-- The row `96 b + z`, found again through its chunk. -/
theorem chunk_at {y : S768x2688.Idx} {b : Fin 8} {r : Fin 96} (h : (y 0).val = 96 * b.val + r.val) :
    chunkOf (y 0) = b ∧ inChunk (y 0) = r := by
  have hr := r.isLt
  refine ⟨Fin.ext ?_, Fin.ext ?_⟩ <;> simp only [chunkOf, inChunk] <;> omega

theorem codesOf_at (X : Vec F S768x2688 .bf16) (b : Fin 8) (y : S768x2688.Idx) (z : S96x2688.Idx)
    (h0 : (y 0).val = 96 * b.val + (z 0).val) (h1 : (y 1).val = (z 1).val) : codesOf X y = chunkCodes (rows X b) z := by
  unfold codesOf
  rw [(chunk_at (r := z 0) h0).1]
  refine congrArg _ (funext fun a => ?_)
  match a with
  | 0 => exact (chunk_at (r := z 0) h0).2
  | 1 => exact Fin.ext h1

theorem scratchOf_at (X : Vec F S768x2688 .bf16) (b : Fin 8) (y : S768x2688.Idx) (z : S96x2688.Idx)
    (h0 : (y 0).val = 96 * b.val + (z 0).val) (h1 : (y 1).val = (z 1).val) : scratchOf X y = chunkScratch (rows X b) z := by
  unfold scratchOf
  rw [(chunk_at (r := z 0) h0).1]
  refine congrArg _ (funext fun a => ?_)
  match a with
  | 0 => exact (chunk_at (r := z 0) h0).2
  | 1 => exact Fin.ext h1

theorem scaleOf_at (X : Vec F S768x2688 .bf16) (b : Fin 8) (y : S768x1.Idx) (z : S96x1.Idx)
    (h0 : (y 0).val = 96 * b.val + (z 0).val) : scaleOf X y = chunkScale (rows X b) z := by
  have hr := (z 0).isLt
  have e1 : chunkOf (y 0) = b := Fin.ext (by simp only [chunkOf]; simp at hr; omega)
  unfold scaleOf
  rw [e1]
  refine congrArg _ (funext fun a => ?_)
  match a with
  | 0 => exact Fin.ext (by simp only [inChunk]; simp at hr; omega)
  | 1 => exact Subsingleton.elim (α := Fin 1) _ _

/-- A load of 96 rows from row `96 b` reads chunk `b`. -/
theorem load_rows {M : Memref sig .tc .vmem S768x2688 .bf16} (f : M.view.ty.Contents (Elt F)) (b : Fin 8) {n : ℕ} (hn : n = 96 * b.val)
    (h : ∀ a, (![n, 0] : Fin 2 → ℕ) a + S96x2688.size a ≤ S768x2688.size a) :
    View.readAt (Elt F) M.view (Rect.unit (s := S768x2688) ![n, 0] S96x2688.size h).toLoadRect f = rows (View.read (Elt F) M.view f) b := by
  subst hn
  funext z
  rw [View.readAt_apply]
  refine congrArg _ (funext fun a => Fin.ext ?_)
  match a with
  | 0 => simp [Rect.unit, LoadRect.idx, rows]; try omega
  | 1 => simp [Rect.unit, LoadRect.idx, rows]; try omega

/-- One block of columns of the product. -/
def yBlock (w : Vec F S2688x512 .fp8e4m3) (s : Vec F S84x512 .i8) (q : Vec F S768x2688 .bf16) (a : Vec F S768x1 .f32) :
    Vec F S768x512 .bf16 := k0_pay2 s w q a

/-- Eight stores of 96 rows each leave `G`, when each stores its rows of `G`. -/
theorem read_chunks {sp : Space} {e : EltTy} (v : View sig .tc sp S768x2688 e) (f : v.ty.Contents (Elt F)) (P : Fin 8 → S96x2688.Idx → Elt F e)
    (G : S768x2688.Idx → Elt F e)
    (h : ∀ (b : Fin 8) (y : S768x2688.Idx) (z : S96x2688.Idx), (y 0).val = 96 * b.val + (z 0).val → (y 1).val = (z 1).val → G y = P b z) :
    v.read (Elt F) (v.writes (Elt F) f
      [⟨Rect.unit (s := S768x2688) ![672, 0] S96x2688.size inb_S768x2688_S96x2688_672_0, P 7⟩,
        ⟨Rect.unit (s := S768x2688) ![576, 0] S96x2688.size inb_S768x2688_S96x2688_576_0, P 6⟩,
        ⟨Rect.unit (s := S768x2688) ![480, 0] S96x2688.size inb_S768x2688_S96x2688_480_0, P 5⟩,
        ⟨Rect.unit (s := S768x2688) ![384, 0] S96x2688.size inb_S768x2688_S96x2688_384_0, P 4⟩,
        ⟨Rect.unit (s := S768x2688) ![288, 0] S96x2688.size inb_S768x2688_S96x2688_288_0, P 3⟩,
        ⟨Rect.unit (s := S768x2688) ![192, 0] S96x2688.size inb_S768x2688_S96x2688_192_0, P 2⟩,
        ⟨Rect.unit (s := S768x2688) ![96, 0] S96x2688.size inb_S768x2688_S96x2688_96_0, P 1⟩,
        ⟨Rect.unit (s := S768x2688) ![0, 0] S96x2688.size inb_S768x2688_S96x2688_0_0, P 0⟩]) = G := by
  refine funext fun y => View.read_writes_apply_of_pieces v f G _ ?_ y (View.cover_of_tiled (s := S768x2688) _ S96x2688.size (by rfl) y)
  simp only [List.forall_mem_cons]
  refine ⟨fun x => (h 7 _ x ?_ ?_).symm, fun x => (h 6 _ x ?_ ?_).symm, fun x => (h 5 _ x ?_ ?_).symm, fun x => (h 4 _ x ?_ ?_).symm,
    fun x => (h 3 _ x ?_ ?_).symm, fun x => (h 2 _ x ?_ ?_).symm, fun x => (h 1 _ x ?_ ?_).symm, fun x => (h 0 _ x ?_ ?_).symm,
    fun p hp => absurd hp List.not_mem_nil⟩ <;> simp [Rect.emb, Rect.unit, LoadRect.idx]

/-- The same for the one column of scales. -/
theorem read_chunks1 {sp : Space} {e : EltTy} (v : View sig .tc sp S768x1 e) (f : v.ty.Contents (Elt F)) (P : Fin 8 → S96x1.Idx → Elt F e)
    (G : S768x1.Idx → Elt F e)
    (h : ∀ (b : Fin 8) (y : S768x1.Idx) (z : S96x1.Idx), (y 0).val = 96 * b.val + (z 0).val → G y = P b z) :
    v.read (Elt F) (v.writes (Elt F) f
      [⟨Rect.unit (s := S768x1) ![672, 0] S96x1.size inb_S768x1_S96x1_672_0, P 7⟩,
        ⟨Rect.unit (s := S768x1) ![576, 0] S96x1.size inb_S768x1_S96x1_576_0, P 6⟩,
        ⟨Rect.unit (s := S768x1) ![480, 0] S96x1.size inb_S768x1_S96x1_480_0, P 5⟩,
        ⟨Rect.unit (s := S768x1) ![384, 0] S96x1.size inb_S768x1_S96x1_384_0, P 4⟩,
        ⟨Rect.unit (s := S768x1) ![288, 0] S96x1.size inb_S768x1_S96x1_288_0, P 3⟩,
        ⟨Rect.unit (s := S768x1) ![192, 0] S96x1.size inb_S768x1_S96x1_192_0, P 2⟩,
        ⟨Rect.unit (s := S768x1) ![96, 0] S96x1.size inb_S768x1_S96x1_96_0, P 1⟩,
        ⟨Rect.unit (s := S768x1) ![0, 0] S96x1.size inb_S768x1_S96x1_0_0, P 0⟩]) = G := by
  refine funext fun y => View.read_writes_apply_of_pieces v f G _ ?_ y (View.cover_of_tiled (s := S768x1) _ S96x1.size (by rfl) y)
  simp only [List.forall_mem_cons]
  refine ⟨fun x => (h 7 _ x ?_).symm, fun x => (h 6 _ x ?_).symm, fun x => (h 5 _ x ?_).symm, fun x => (h 4 _ x ?_).symm,
    fun x => (h 3 _ x ?_).symm, fun x => (h 2 _ x ?_).symm, fun x => (h 1 _ x ?_).symm, fun x => (h 0 _ x ?_).symm,
    fun p hp => absurd hp List.not_mem_nil⟩ <;> simp [Rect.emb, Rect.unit, LoadRect.idx]

set_option maxHeartbeats 4000000 in
/-- The body at the first point. -/
theorem body_first (c : Dev nD) (i : grid0.Coords) (hi : k0_cond1 i = 1#1) (arg1 : Memref sig .tc .vmem S768x2688 .bf16) (harg1 : arg1.IsWhole)
    (arg2 : Memref sig .tc .vmem S2688x512 .fp8e4m3) (harg2 : arg2.IsWhole) (arg3 : Memref sig .tc .vmem S84x512 .i8) (harg3 : arg3.IsWhole)
    (arg4 : Memref sig .tc .vmem S768x512 .bf16) (harg4 : arg4.IsWhole) (arg5 : Memref sig .tc .vmem S768x2688 .fp8e4m3) (harg5 : arg5.IsWhole)
    (arg6 : Memref sig .tc .vmem S768x1 .f32) (harg6 : arg6.IsWhole) (arg7 : Memref sig .tc .vmem S768x2688 .bf16) (harg7 : arg7.IsWhole)
    (X : Vec F S768x2688 .bf16) (w : Vec F S2688x512 .fp8e4m3) (s : Vec F S84x512 .i8) (K : PUnit → sProp 𝕄) :
    iprop(owns (c : Thread nD τ) arg1 fullShare X ∗ owns (c : Thread nD τ) arg2 fullShare w ∗ owns (c : Thread nD τ) arg3 fullShare s
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare X ∗ owns (c : Thread nD τ) arg2 fullShare w ∗ owns (c : Thread nD τ) arg3 fullShare s
            ∗ owns (c : Thread nD τ) arg4 fullShare (yBlock w s (scratchOf X) (scaleOf X)) ∗ owns (c : Thread nD τ) arg5 fullShare (codesOf X)
            ∗ owns (c : Thread nD τ) arg6 fullShare (scaleOf X) ∗ owns (c : Thread nD τ) arg7 fullShare (scratchOf X)) -∗ K ⟨⟩))
      ⊢ wp frame (wpE (defs₀ (F := F)) Variants.none c none) Set.univ
          (cc0_mxfp8_linear i arg1 harg1 arg2 harg2 arg3 harg3 arg4 harg4 arg5 harg5 arg6 harg6 arg7 harg7) K := by
  simp only [cc0_mxfp8_linear_eq_skeleton]; unfold cc0_mxfp8_linear_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have e6 : ∀ f, View.read (Elt F) arg6.view (arg6.view.writes (Elt F) f (body_first.sl.H6_8 c arg1 f1)) = scaleOf (View.read (Elt F) arg1.view f1) := by
    intro f
    sl_open_run
    simp only [load_rows f1 0 (n := 0) (by decide), load_rows f1 1 (n := 96) (by decide), load_rows f1 2 (n := 192) (by decide), load_rows f1 3 (n := 288) (by decide), load_rows f1 4 (n := 384) (by decide), load_rows f1 5 (n := 480) (by decide), load_rows f1 6 (n := 576) (by decide), load_rows f1 7 (n := 672) (by decide)]
    exact read_chunks1 _ _ (fun b => chunkScale (rows (View.read (Elt F) arg1.view f1) b)) _ (scaleOf_at _)
  have e7 : ∀ f, View.read (Elt F) arg7.view (arg7.view.writes (Elt F) f (body_first.sl.H7_8 c arg1 f1)) = scratchOf (View.read (Elt F) arg1.view f1) := by
    intro f
    sl_open_run
    simp only [load_rows f1 0 (n := 0) (by decide), load_rows f1 1 (n := 96) (by decide), load_rows f1 2 (n := 192) (by decide), load_rows f1 3 (n := 288) (by decide), load_rows f1 4 (n := 384) (by decide), load_rows f1 5 (n := 480) (by decide), load_rows f1 6 (n := 576) (by decide), load_rows f1 7 (n := 672) (by decide)]
    exact read_chunks _ _ (fun b => chunkScratch (rows (View.read (Elt F) arg1.view f1) b)) _ (scratchOf_at _)
  isplitl [H4]
  · iexists _; isplitr
    swap; · iexact H4
    ipureintro
    unfold body_first.sl.v16 body_first.sl.v18 View.readCov
    rw [View.read_writes_full, View.readAt_full, View.readAt_full, View.readAt_full, View.readAt_full, e6, e7]
    rfl
  isplitl [H5]
  · iexists _; isplitr
    swap; · iexact H5
    ipureintro
    sl_open_run
    simp only [load_rows f1 0 (n := 0) (by decide), load_rows f1 1 (n := 96) (by decide), load_rows f1 2 (n := 192) (by decide), load_rows f1 3 (n := 288) (by decide), load_rows f1 4 (n := 384) (by decide), load_rows f1 5 (n := 480) (by decide), load_rows f1 6 (n := 576) (by decide), load_rows f1 7 (n := 672) (by decide)]
    exact read_chunks _ _ (fun b => chunkCodes (rows (View.read (Elt F) arg1.view f1) b)) _ (codesOf_at _)
  isplitl [H6]
  · iexists _; isplitr
    swap; · iexact H6
    ipureintro
    exact e6 _
  iexists _; isplitr
  swap; · iexact H7
  ipureintro
  exact e7 _

set_option maxHeartbeats 4000000 in
/-- The body at a later point: the codes' buffer is not touched, the scales and the scratch are only read. -/
theorem body_later (c : Dev nD) (i : grid0.Coords) (hi : ¬ k0_cond1 i = 1#1) (arg1 : Memref sig .tc .vmem S768x2688 .bf16) (harg1 : arg1.IsWhole)
    (arg2 : Memref sig .tc .vmem S2688x512 .fp8e4m3) (harg2 : arg2.IsWhole) (arg3 : Memref sig .tc .vmem S84x512 .i8) (harg3 : arg3.IsWhole)
    (arg4 : Memref sig .tc .vmem S768x512 .bf16) (harg4 : arg4.IsWhole) (arg5 : Memref sig .tc .vmem S768x2688 .fp8e4m3) (harg5 : arg5.IsWhole)
    (arg6 : Memref sig .tc .vmem S768x1 .f32) (harg6 : arg6.IsWhole) (arg7 : Memref sig .tc .vmem S768x2688 .bf16) (harg7 : arg7.IsWhole)
    (w : Vec F S2688x512 .fp8e4m3) (s : Vec F S84x512 .i8) (a : Vec F S768x1 .f32) (q : Vec F S768x2688 .bf16) (K : PUnit → sProp 𝕄) :
    iprop(owns (c : Thread nD τ) arg2 fullShare w ∗ owns (c : Thread nD τ) arg3 fullShare s
        ∗ (∃ d, owns (c : Thread nD τ) arg4 fullShare d)
        ∗ owns (c : Thread nD τ) arg6 fullShare a ∗ owns (c : Thread nD τ) arg7 fullShare q
        ∗ (iprop(owns (c : Thread nD τ) arg2 fullShare w ∗ owns (c : Thread nD τ) arg3 fullShare s
            ∗ owns (c : Thread nD τ) arg4 fullShare (yBlock w s q a)
            ∗ owns (c : Thread nD τ) arg6 fullShare a ∗ owns (c : Thread nD τ) arg7 fullShare q) -∗ K ⟨⟩))
      ⊢ wp frame (wpE (defs₀ (F := F)) Variants.none c none) Set.univ
          (cc0_mxfp8_linear i arg1 harg1 arg2 harg2 arg3 harg3 arg4 harg4 arg5 harg5 arg6 harg6 arg7 harg7) K := by
  simp only [cc0_mxfp8_linear_eq_skeleton]; unfold cc0_mxfp8_linear_skel
  unfold owns
  iintro ⟨⟨%f2, %hf2, H2⟩, ⟨%f3, %hf3, H3⟩, ⟨%d4, %f4, -, H4⟩, ⟨%f6, %hf6, H6⟩, ⟨%f7, %hf7, H7⟩, Hk⟩
  subst hf2 hf3 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_full, View.readAt_full, View.readAt_full, View.readAt_full, View.readAt_full]
    rfl
  isplitl [H6]
  · iexists f6; isplitr; · ipureintro; rfl
    iexact H6
  iexists f7; isplitr; · ipureintro; rfl
  iexact H7

end Cert.KernelIdeal.Hand

end
-- ==== Proof.Obligation.lean ====
/-
  The kernel's region run over its grid of 25 column blocks.  The activations' window holds the whole array at every
  point; the weight's and its scales' windows hold their block of columns, the last of them filled out past the end of
  the array by words nothing names; the codes' and the scales' buffers and the scratch hold what the first point left.
  Of the product's buffer the data state a property: it is one block of the product of the scratch with what the two
  weight buffers held.
-/
module

public import proofs.«01_k».proof.Proof.Body
public import Idealize.ShloMosaic.Lib.Pipeline.DatRel
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data -/

/-- The activations, as the region finds them. -/
def acts (c : Dev nD) : Vec F S768x2688 .bf16 := V m c main_v0

/-- The weight's buffer at a point: its block of columns, `d` past the end of the array. -/
def wBuf (c : Dev nD) (t : Fin cfg0.N) (d : Vec F S2688x512 .fp8e4m3) : Vec F S2688x512 .fp8e4m3 :=
  win0_1.fill (grid0.coords t) d (iblk m c 1 t)
/-- The scales' buffer at a point: likewise. -/
def sBuf (c : Dev nD) (t : Fin cfg0.N) (d : Vec F S84x512 .i8) : Vec F S84x512 .i8 :=
  win0_2.fill (grid0.coords t) d (iblk m c 2 t)

/-- The scratch buffer's memref. -/
abbrev scM : Memref sig .tc .vmem S768x2688 .bf16 := Memref.whole cc0_scratch0

/-- What holds before point `n`: before the first the scratch holds anything, later the activations' codes. -/
def Phi (c : Dev nD) : ℕ → sProp 𝕄
  | 0 => Pipeline.ΦA spec0 c
  | _ + 1 => iprop(owns (c : Thread nD τ) scM fullShare (scratchOf (acts m c)) ∗ ∃ r, prngReg c r)

theorem PhiA_eq (c : Dev nD) :
    (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

/-- Some words past the end of the weight. -/
def junk1 : Vec F S2688x512 .fp8e4m3 := fun _ => (Elt.nonempty F _).some
/-- Some words past the end of the weight's scales. -/
def junk2 : Vec F S84x512 .i8 := fun _ => (Elt.nonempty F _).some

/-- The proof data: what each buffer holds after the body at each point, and what the scratch holds between points. -/
def dats (_ : Fin 1) (c : Dev nD) : Dat τ (Elt F) Unit ℕ (UR sig nD τ) ℕ cfg0 c where
  A w := V m c (Pipeline.arrRef spec0 w)
  after := fun
    | 0 => fun _ => acts m c
    | 1 => fun t => wBuf m c t junk1
    | 2 => fun t => sBuf m c t junk2
    | 3 => fun _ _ => (Elt.nonempty F _).some
    | 4 => fun _ => codesOf (acts m c)
    | 5 => fun _ => scaleOf (acts m c)
    | ⟨_ + 6, h⟩ => absurd h (Nat.not_lt.2 (Nat.le_add_left _ _))
  Φ t := Phi m c t.val
  q _ := fullShare
  owed _ := 0

/-- The window held to a property: the product's. -/
def mark : Fin cfg0.W → Bool := fun | 3 => true | _ => false

/-- The property: a block of the product, by what the two buffers of the weight may have held. -/
def yRel (c : Dev nD) : (w : Fin cfg0.W) → Fin cfg0.N → ((cfg0.win w).block.Idx → Elt F (cfg0.win w).elt) → Prop := fun
    | 0 => fun _ _ => True
    | 1 => fun _ _ => True
    | 2 => fun _ _ => True
    | 3 => fun t X => ∃ d1 d2, X = yBlock (wBuf m c t d1) (sBuf m c t d2) (scratchOf (acts m c)) (scaleOf (acts m c))
    | 4 => fun _ _ => True
    | 5 => fun _ _ => True
    | ⟨_ + 6, h⟩ => absurd h (Nat.not_lt.2 (Nat.le_add_left _ _))

/-! ## What the body finds -/

theorem cond_iff : ∀ t : Fin cfg0.N, k0_cond1 (grid0.coords t) = 1#1 ↔ t.val = 0 := by decide +kernel

theorem iblk0_eq (c : Dev nD) (t : Fin cfg0.N) : iblk m c 0 t = acts m c := by
  unfold iblk acts
  funext j
  show V m c main_v0 _ = V m c main_v0 j
  refine congrArg _ (funext fun a => Fin.ext ?_)
  have e : ∀ t : Fin cfg0.N, win0_0.index t = ![0, 0] := (by decide +kernel : ∀ t : Fin grid0.N, _)
  match a with
  | 0 => blk_simp [e]
  | 1 => blk_simp [e]

theorem before0 (c : Dev nD) (t : Fin cfg0.N) (d) : (dats m 0 c).before 0 t d = acts m c :=
  (before0_0_of m (dats m 0 c) rfl (fun t => (iblk0_eq m c t).symm) t d).trans (iblk0_eq m c t)

theorem before1 (c : Dev nD) (t : Fin cfg0.N) (d) : (dats m 0 c).before 1 t d = wBuf m c t d := by
  rw [Dat.before_fetched _ 1 t (fetch0_1 t)]; rfl

theorem before2 (c : Dev nD) (t : Fin cfg0.N) (d) : (dats m 0 c).before 2 t d = sBuf m c t d := by
  rw [Dat.before_fetched _ 2 t (fetch0_2 t)]; rfl

theorem idle4_zero {t : Fin cfg0.N} (h : t.val = 0) : cfg0.idle 4 (cfg0.grid.coords t) = false := by
  show (!(k0_cond1 (grid0.coords t) == 1#1)) = false
  rw [(cond_iff t).mpr h]; rfl
theorem idle4_pos {t : Fin cfg0.N} (h : t.val ≠ 0) : cfg0.idle 4 (cfg0.grid.coords t) = true := by
  show (!(k0_cond1 (grid0.coords t) == 1#1)) = true
  have := mt (cond_iff t).mp h
  simp [this]
theorem idle5_zero {t : Fin cfg0.N} (h : t.val = 0) : cfg0.idle 5 (cfg0.grid.coords t) = false := idle4_zero h
theorem idle5_pos {t : Fin cfg0.N} (h : t.val ≠ 0) : cfg0.idle 5 (cfg0.grid.coords t) = true := idle4_pos h

/-- A window stored at the first point alone and written back after the last holds, at every later point, what the first
    point left. -/
theorem before_once {c : Dev nD} (dat : Dat τ (Elt F) Unit ℕ (UR sig nD τ) ℕ cfg0 c) (w : Fin cfg0.W) (hw : (cfg0.win w).isOut = true)
    (hf : ∀ t : Fin cfg0.N, (cfg0.win w).flush t = true ↔ t.val % 25 = 24)
    (h0 : ∀ t : Fin cfg0.N, t.val = 0 → cfg0.idle w (cfg0.grid.coords t) = false)
    (h1 : ∀ t : Fin cfg0.N, t.val ≠ 0 → cfg0.idle w (cfg0.grid.coords t) = true)
    (hclip : ∀ (i : cfg0.grid.Coords) a, (cfg0.win w).clip i a = none) (G) (hG : ∀ t, dat.after w t = G) (d) :
    ∀ (n : ℕ) (h : n + 1 < cfg0.N), dat.before w ⟨n + 1, h⟩ d = G
  | n, h => by
    rw [Dat.before_of_pos _ w ⟨n + 1, h⟩ (Nat.succ_ne_zero _) ((cfg0.win w).fetch_out hw _)]
    have hn : n + 1 < 25 := h
    have hfl : (cfg0.win w).flush ⟨n, Nat.lt_of_succ_lt h⟩ = false := Bool.eq_false_iff.mpr fun hh => by
      have := (hf _).mp hh; simp only at this; omega
    show (if (cfg0.win w).flush ⟨n, _⟩ = true then d else dat.left w ⟨n, Nat.lt_of_succ_lt h⟩ d) = _
    rw [hfl, if_neg Bool.false_ne_true]
    unfold Dat.left
    cases n with
    | zero =>
      rw [h0 ⟨0, _⟩ rfl]
      unfold Dat.kept
      simp only
      rw [Pipeline.fill_of_clip_none w _ (hclip _) d (dat.after w _), Window.fill_cut, hG]
    | succ n =>
      rw [h1 ⟨n + 1, _⟩ (Nat.succ_ne_zero _)]
      exact before_once dat w hw hf h0 h1 hclip G hG d n _

theorem before4 (c : Dev nD) (t : Fin cfg0.N) (ht : t.val ≠ 0) (d) : (dats m 0 c).before 4 t d = codesOf (acts m c) := by
  obtain ⟨n, h⟩ := t
  obtain ⟨n, rfl⟩ := Nat.exists_eq_succ_of_ne_zero ht
  exact before_once (dats m 0 c) 4 rfl flush0_4 (fun _ => idle4_zero) (fun _ => idle4_pos) (fun _ _ => rfl) _ (fun _ => rfl) d n h

theorem before5 (c : Dev nD) (t : Fin cfg0.N) (ht : t.val ≠ 0) (d) : (dats m 0 c).before 5 t d = scaleOf (acts m c) := by
  obtain ⟨n, h⟩ := t
  obtain ⟨n, rfl⟩ := Nat.exists_eq_succ_of_ne_zero ht
  exact before_once (dats m 0 c) 5 rfl flush0_5 (fun _ => idle5_zero) (fun _ => idle5_pos) (fun _ _ => rfl) _ (fun _ => rfl) d n h

/-! ## The body obligation -/

/-- The body at the first point: it meets the obligation. -/
theorem sound_first (c : Dev nD) (t : Fin cfg0.N) (ht : t.val = 0) :
    iprop((dats m 0 c).Φ t.castSucc ∗ (dats m 0 c).owesAt () t.castSucc
        ∗ owns (c : Thread nD τ) (st0_0 t) fullShare (acts m c)
        ∗ (∃ d, owns (c : Thread nD τ) (st0_1 t) fullShare (wBuf m c t d))
        ∗ (∃ d, owns (c : Thread nD τ) (st0_2 t) fullShare (sBuf m c t d))
        ∗ (∃ d, owns (c : Thread nD τ) (st0_3 t) fullShare d)
        ∗ (∃ d, owns (c : Thread nD τ) (st0_4 t) fullShare d)
        ∗ (∃ d, owns (c : Thread nD τ) (st0_5 t) fullShare d))
      ⊢ wp frame (wpE (defs₀ (F := F)) Variants.none c none) Set.univ (bodyAt0 t) fun _ =>
        iprop((dats m 0 c).Φ t.succ ∗ (dats m 0 c).owesAt () t.succ
        ∗ owns (c : Thread nD τ) (st0_0 t) fullShare (acts m c)
        ∗ (∃ d, owns (c : Thread nD τ) (st0_1 t) fullShare (wBuf m c t d))
        ∗ (∃ d, owns (c : Thread nD τ) (st0_2 t) fullShare (sBuf m c t d))
        ∗ (∃ X, ⌜yRel m c 3 t X⌝ ∗ owns (c : Thread nD τ) (st0_3 t) fullShare X)
        ∗ owns (c : Thread nD τ) (st0_4 t) fullShare (codesOf (acts m c))
        ∗ owns (c : Thread nD τ) (st0_5 t) fullShare (scaleOf (acts m c))) := by
  have e0 : (dats m 0 c).Φ t.castSucc = Phi m c 0 := by show Phi m c t.val = _; rw [ht]
  have e1 : (dats m 0 c).Φ t.succ = Phi m c 1 := by show Phi m c (t.val + 1) = _; rw [ht]
  rw [e0, e1, show (dats m 0 c).owesAt () t.succ = (dats m 0 c).owesAt () t.castSucc from rfl]
  unfold Phi bodyAt0
  rw [PhiA_eq]
  iintro ⟨⟨HS, Hg⟩, HO, H0, ⟨%d1, H1⟩, ⟨%d2, H2⟩, H3, H4, H5⟩
  iapply (body_first c (grid0.coords t) ((cond_iff t).mpr ht) _ _ _ _ _ _ _ _ _ _ _ _ _ _ (acts m c) (wBuf m c t d1) (sBuf m c t d2) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [HO]; · iexact HO
  isplitl [H0]; · iexact H0
  isplitl [H1]; · iexists d1; iexact H1
  isplitl [H2]; · iexists d2; iexact H2
  isplitl [H3]
  · iexists _; isplitr
    swap; · iexact H3
    ipureintro
    exact ⟨d1, d2, rfl⟩
  isplitl [H4]; · iexact H4
  iexact H5

/-- The body at a later point: it meets the obligation. -/
theorem sound_later (c : Dev nD) (t : Fin cfg0.N) (ht : t.val ≠ 0) :
    iprop((dats m 0 c).Φ t.castSucc ∗ (dats m 0 c).owesAt () t.castSucc
        ∗ (∃ d, owns (c : Thread nD τ) (st0_1 t) fullShare (wBuf m c t d))
        ∗ (∃ d, owns (c : Thread nD τ) (st0_2 t) fullShare (sBuf m c t d))
        ∗ (∃ d, owns (c : Thread nD τ) (st0_3 t) fullShare d)
        ∗ owns (c : Thread nD τ) (st0_5 t) fullShare (scaleOf (acts m c)))
      ⊢ wp frame (wpE (defs₀ (F := F)) Variants.none c none) Set.univ (bodyAt0 t) fun _ =>
        iprop((dats m 0 c).Φ t.succ ∗ (dats m 0 c).owesAt () t.succ
        ∗ (∃ d, owns (c : Thread nD τ) (st0_1 t) fullShare (wBuf m c t d))
        ∗ (∃ d, owns (c : Thread nD τ) (st0_2 t) fullShare (sBuf m c t d))
        ∗ (∃ X, ⌜yRel m c 3 t X⌝ ∗ owns (c : Thread nD τ) (st0_3 t) fullShare X)
        ∗ owns (c : Thread nD τ) (st0_5 t) fullShare (scaleOf (acts m c))) := by
  obtain ⟨n, hn⟩ := Nat.exists_eq_succ_of_ne_zero ht
  have e0 : (dats m 0 c).Φ t.castSucc = Phi m c (n + 1) := by show Phi m c t.val = _; rw [hn]
  have e1 : (dats m 0 c).Φ t.succ = Phi m c (n + 1 + 1) := by show Phi m c (t.val + 1) = _; rw [hn]
  rw [e0, e1, show (dats m 0 c).owesAt () t.succ = (dats m 0 c).owesAt () t.castSucc from rfl]
  unfold Phi bodyAt0
  iintro ⟨⟨HS, Hg⟩, HO, ⟨%d1, H1⟩, ⟨%d2, H2⟩, H3, H5⟩
  iapply (body_later c (grid0.coords t) (mt (cond_iff t).mp ht) _ _ _ _ _ _ _ _ _ _ _ _ _ _ (wBuf m c t d1) (sBuf m c t d2)
    (scaleOf (acts m c)) (scratchOf (acts m c)) _)
  isplitl [H1]; · iexact H1
  isplitl [H2]; · iexact H2
  isplitl [H3]; · iexact H3
  isplitl [H5]; · iexact H5
  isplitl [HS]; · iexact HS
  iintro ⟨H1, H2, H3, H5, HS⟩
  isplitl [HS Hg]
  · isplitl [HS]; · iexact HS
    iexact Hg
  isplitl [HO]; · iexact HO
  isplitl [H1]; · iexists d1; iexact H1
  isplitl [H2]; · iexists d2; iexact H2
  isplitl [H3]
  · iexists _; isplitr
    swap; · iexact H3
    ipureintro
    exact ⟨d1, d2, rfl⟩
  iexact H5

/-- A block moved out of the buffer the body leaves and filled into another tail: the block over that tail. -/
theorem refill {c : Dev nD} (dat : Dat τ (Elt F) Unit ℕ (UR sig nD τ) ℕ cfg0 c) (w : Fin cfg0.W) (t : Fin cfg0.N) {d'} {G}
    (h : dat.after w t = (cfg0.win w).fill (cfg0.grid.coords t) d' G) (d) :
    (cfg0.win w).fill (cfg0.grid.coords t) d ((cfg0.win w).cut (cfg0.grid.coords t) (dat.after w t))
      = (cfg0.win w).fill (cfg0.grid.coords t) d G := by rw [h, Window.cut_fill]

theorem after1 (c : Dev nD) (t : Fin cfg0.N) : (dats m 0 c).after 1 t = wBuf m c t junk1 := rfl
theorem after2 (c : Dev nD) (t : Fin cfg0.N) : (dats m 0 c).after 2 t = sBuf m c t junk2 := rfl

/-- The body meets the obligation at every point. -/
theorem obligation (c : Dev nD) :
    BodyObligationRel (dats m 0 c) defs₀ Variants.none () Set.univ mark (yRel m c) := fun t => by
  rw [bigSep_W0, bigSep_W0]
  simp only [mark, before0, before1, before2]
  simp only [refill (dats m 0 c) 1 t (after1 m c t), refill (dats m 0 c) 2 t (after2 m c t)]
  by_cases ht : t.val = 0
  · have i4 : idle0 4 (grid0.coords t) = false := idle4_zero ht
    have i5 : idle0 5 (grid0.coords t) = false := idle5_zero ht
    simp only [i4, i5]
    iintro ⟨HΦ, HO, ⟨%d0, H0⟩, H1, H2, ⟨%Y, %hY, H3⟩, ⟨%d4, H4⟩, ⟨%d5, H5⟩⟩
    iapply (sound_first m c t ht)
    isplitl [HΦ]; · iexact HΦ
    isplitl [HO]; · iexact HO
    isplitl [H0]; · iexact H0
    isplitl [H1]; · iexact H1
    isplitl [H2]; · iexact H2
    isplitl [H3]; · iexists Y; iexact H3
    isplitl [H4]; · iexists _; iexact H4
    iexists _; iexact H5
  · have i4 : idle0 4 (grid0.coords t) = true := idle4_pos ht
    have i5 : idle0 5 (grid0.coords t) = true := idle5_pos ht
    simp only [i4, i5, before4 m c t ht, before5 m c t ht]
    iintro ⟨HΦ, HO, ⟨%d0, H0⟩, H1, H2, ⟨%Y, %hY, H3⟩, ⟨%d4, H4⟩, ⟨%d5, H5⟩⟩
    iapply (wp_wand_r Idealize.ShloMosaic.frame (wpE (defs₀ (F := F)) Variants.none (c : Thread nD τ) none) Set.univ)
    isplitl [HΦ HO H1 H2 H3 H5]
    · iapply (sound_later m c t ht)
      isplitl [HΦ]; · iexact HΦ
      isplitl [HO]; · iexact HO
      isplitl [H1]; · iexact H1
      isplitl [H2]; · iexact H2
      isplitl [H3]; · iexists Y; iexact H3
      iexact H5
    · iintro %_ ⟨HΦ, HO, H1, H2, H3, H5⟩
      isplitl [HΦ]; · iexact HΦ
      isplitl [HO]; · iexact HO
      isplitl [H0]; · iexact H0
      isplitl [H1]; · iexact H1
      isplitl [H2]; · iexact H2
      isplitl [H3]; · iexact H3
      isplitl [H4]
      · cases (win0 4).flush t
        · iexists d4; iexact H4
        · iexact H4
      · cases (win0 5).flush t
        · iexists d5; iexact H5
        · iexact H5

end Cert.KernelIdeal.Hand

end
-- ==== Proof.Run.lean ====
/-
  The run of the kernel's program: it terminates without fault, its semaphores end at zero, its arguments end as they
  began, and its arrays end as the data of Obligation.lean say.
-/
module

public import proofs.«01_k».proof.Proof.Obligation
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

variable (m : (ℓ : Loc nD τ sig) → Buf (Elt F) ℓ) (ρ : Dev nD → PrngReg)

theorem Phi_zero (c : Dev nD) : Pipeline.ΦA spec0 c ⊢ (dats m 0 c).Φ 0 := .rfl

theorem Phi_last (c : Dev nD) : (dats m 0 c).Φ (Fin.last cfg0.N) ⊢ Pipeline.ΦA spec0 c := by
  show Phi m c (24 + 1) ⊢ _
  rw [PhiA_eq]; unfold Phi
  iintro ⟨HS, Hg⟩
  isplitl [HS]; · iexists _; iexact HS
  iexact Hg

/-- The data, the product's window held to its property. -/
abbrev rdats (c : Dev nD) : RDat τ (Elt F) Unit ℕ (UR sig nD τ) ℕ cfg0 c := (dats m 0 c).toRRel mark (yRel m c)

/-- The run: every array as the data say, and the semaphores at zero. -/
theorem run_main : θ_run defs (onTc (τ := τ) (main (F := F))) ⟨m, fun _ => 0, ρ⟩
    (fun r => RDat.FramePost cfg0 (rdats m) (V m) r ∧ r.2.sem = fun _ => 0) :=
  Pipeline.RDat.θ_run_frame_track cfgs 0 launch0 defs₀ Variants.none (rdats m) m ρ main (fun c => (obligation m c).toRRel)
    (fun _ w => by rw [Pipeline.RDat.share]; split <;> rfl) (fun _ _ => rfl) (V m) (hmain m Variants.none) (fun _ _ => rfl) (Phi_zero m) (Phi_last m)
    (fun r => RDat.FramePost cfg0 (rdats m) (V m) r ∧ r.2.sem = fun _ => 0) (fun _ h => h)

/-- A run ending so leaves the arguments as they were. -/
theorem args_of {r : PUnit × MemSt nD τ sig (Elt F)} (h : RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    (h.arr_in c 1 rfl).trans (V_main_arg1 m c), (h.arr_in c 2 rfl).trans (V_main_arg2 m c)⟩

/-- The program terminates without fault, leaves its arguments unchanged and its semaphores at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨args_of m h.1, h.2⟩) (run_main m ρ)

end Cert.KernelIdeal.Hand

end
-- ==== Proof.KernelBody.lean ====
/-
  The kernel's body, run once at a grid point.  At the first point the body quantises the activations in eight chunks of
  96 rows, leaving the fp8 codes and the scale of every row in the two buffers that are written back at the end and the
  codes once more, as bfloat16, in the scratch buffer; at every point it multiplies the scratch by one block of columns
  of the dequantised weight.  `codesOf`, `scaleOf`, `scratchOf` and `yBlock` name what is left where.
-/
module

public import proofs.«01_k».proof.Proof.Gen.Kernel.Frame
public import proofs.«01_k».proof.Proof.Gen.Kernel.Skeleton
public import Idealize.ShloMosaic.Lib.Pipeline.FrameBody
public import Idealize.ShloMosaic.Lib.Tactic
public import Idealize.ShloMosaic.Lib.Tactic.Stretches
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## What one chunk of rows becomes -/

/-- The scale of each of 96 rows. -/
def chunkScale (v : Vec F S96x2688 .bf16) : Vec F S96x1 .f32 := k0_pay5 v
/-- The fp8 codes of 96 rows. -/
def chunkCodes (v : Vec F S96x2688 .bf16) : Vec F S96x2688 .fp8e4m3 := k0_pay9 (k0_pay6 v) (k0_pay7 v) k0_pay8
/-- The codes of 96 rows as bfloat16. -/
def chunkScratch (v : Vec F S96x2688 .bf16) : Vec F S96x2688 .bf16 := k0_pay10 (k0_pay6 v) (k0_pay7 v) k0_pay8

/-! ## What all the rows become -/

/-- Rows 96 b, …, 96 b + 95. -/
def rows (X : Vec F S768x2688 .bf16) (b : Fin 8) : Vec F S96x2688 .bf16 :=
  fun z => X (fun | 0 => ⟨96 * b.val + (z 0).val, by have := (z 0).isLt; have := b.isLt; simp at *; omega⟩ | 1 => z 1)
/-- The chunk a row lies in. -/
def chunkOf (r : Fin 768) : Fin 8 := ⟨r.val / 96, by omega⟩
/-- The row's place in its chunk. -/
def inChunk (r : Fin 768) : Fin 96 := ⟨r.val % 96, by omega⟩

/-- The scale of every row. -/
def scaleOf (X : Vec F S768x2688 .bf16) : Vec F S768x1 .f32 :=
  fun y => chunkScale (rows X (chunkOf (y 0))) (fun | 0 => inChunk (y 0) | 1 => y 1)
/-- The codes of every row. -/
def codesOf (X : Vec F S768x2688 .bf16) : Vec F S768x2688 .fp8e4m3 :=
  fun y => chunkCodes (rows X (chunkOf (y 0))) (fun | 0 => inChunk (y 0) | 1 => y 1)
/-- The codes of every row as bfloat16. -/
def scratchOf (X : Vec F S768x2688 .bf16) : Vec F S768x2688 .bf16 :=
  fun y => chunkScratch (rows X (chunkOf (y 0))) (fun | 0 => inChunk (y 0) | 1 => y 1)

/-- The row `96 b + z`, found again through its chunk. -/
theorem chunk_at {y : S768x2688.Idx} {b : Fin 8} {r : Fin 96} (h : (y 0).val = 96 * b.val + r.val) :
    chunkOf (y 0) = b ∧ inChunk (y 0) = r := by
  have hr := r.isLt
  refine ⟨Fin.ext ?_, Fin.ext ?_⟩ <;> simp only [chunkOf, inChunk] <;> omega

theorem codesOf_at (X : Vec F S768x2688 .bf16) (b : Fin 8) (y : S768x2688.Idx) (z : S96x2688.Idx)
    (h0 : (y 0).val = 96 * b.val + (z 0).val) (h1 : (y 1).val = (z 1).val) : codesOf X y = chunkCodes (rows X b) z := by
  unfold codesOf
  rw [(chunk_at (r := z 0) h0).1]
  refine congrArg _ (funext fun a => ?_)
  match a with
  | 0 => exact (chunk_at (r := z 0) h0).2
  | 1 => exact Fin.ext h1

theorem scratchOf_at (X : Vec F S768x2688 .bf16) (b : Fin 8) (y : S768x2688.Idx) (z : S96x2688.Idx)
    (h0 : (y 0).val = 96 * b.val + (z 0).val) (h1 : (y 1).val = (z 1).val) : scratchOf X y = chunkScratch (rows X b) z := by
  unfold scratchOf
  rw [(chunk_at (r := z 0) h0).1]
  refine congrArg _ (funext fun a => ?_)
  match a with
  | 0 => exact (chunk_at (r := z 0) h0).2
  | 1 => exact Fin.ext h1

theorem scaleOf_at (X : Vec F S768x2688 .bf16) (b : Fin 8) (y : S768x1.Idx) (z : S96x1.Idx)
    (h0 : (y 0).val = 96 * b.val + (z 0).val) : scaleOf X y = chunkScale (rows X b) z := by
  have hr := (z 0).isLt
  have e1 : chunkOf (y 0) = b := Fin.ext (by simp only [chunkOf]; simp at hr; omega)
  unfold scaleOf
  rw [e1]
  refine congrArg _ (funext fun a => ?_)
  match a with
  | 0 => exact Fin.ext (by simp only [inChunk]; simp at hr; omega)
  | 1 => exact Subsingleton.elim (α := Fin 1) _ _

/-- A load of 96 rows from row `96 b` reads chunk `b`. -/
theorem load_rows {M : Memref sig .tc .vmem S768x2688 .bf16} (f : M.view.ty.Contents (Elt F)) (b : Fin 8) {n : ℕ} (hn : n = 96 * b.val)
    (h : ∀ a, (![n, 0] : Fin 2 → ℕ) a + S96x2688.size a ≤ S768x2688.size a) :
    View.readAt (Elt F) M.view (Rect.unit (s := S768x2688) ![n, 0] S96x2688.size h).toLoadRect f = rows (View.read (Elt F) M.view f) b := by
  subst hn
  funext z
  rw [View.readAt_apply]
  refine congrArg _ (funext fun a => Fin.ext ?_)
  match a with
  | 0 => simp [Rect.unit, LoadRect.idx, rows]; try omega
  | 1 => simp [Rect.unit, LoadRect.idx, rows]; try omega

/-- One block of columns of the product. -/
def yBlock (w : Vec F S2688x512 .fp8e4m3) (s : Vec F S84x512 .i8) (q : Vec F S768x2688 .bf16) (a : Vec F S768x1 .f32) :
    Vec F S768x512 .bf16 := k0_pay2 s w q a

/-- Eight stores of 96 rows each leave `G`, when each stores its rows of `G`. -/
theorem read_chunks {sp : Space} {e : EltTy} (v : View sig .tc sp S768x2688 e) (f : v.ty.Contents (Elt F)) (P : Fin 8 → S96x2688.Idx → Elt F e)
    (G : S768x2688.Idx → Elt F e)
    (h : ∀ (b : Fin 8) (y : S768x2688.Idx) (z : S96x2688.Idx), (y 0).val = 96 * b.val + (z 0).val → (y 1).val = (z 1).val → G y = P b z) :
    v.read (Elt F) (v.writes (Elt F) f
      [⟨Rect.unit (s := S768x2688) ![672, 0] S96x2688.size inb_S768x2688_S96x2688_672_0, P 7⟩,
        ⟨Rect.unit (s := S768x2688) ![576, 0] S96x2688.size inb_S768x2688_S96x2688_576_0, P 6⟩,
        ⟨Rect.unit (s := S768x2688) ![480, 0] S96x2688.size inb_S768x2688_S96x2688_480_0, P 5⟩,
        ⟨Rect.unit (s := S768x2688) ![384, 0] S96x2688.size inb_S768x2688_S96x2688_384_0, P 4⟩,
        ⟨Rect.unit (s := S768x2688) ![288, 0] S96x2688.size inb_S768x2688_S96x2688_288_0, P 3⟩,
        ⟨Rect.unit (s := S768x2688) ![192, 0] S96x2688.size inb_S768x2688_S96x2688_192_0, P 2⟩,
        ⟨Rect.unit (s := S768x2688) ![96, 0] S96x2688.size inb_S768x2688_S96x2688_96_0, P 1⟩,
        ⟨Rect.unit (s := S768x2688) ![0, 0] S96x2688.size inb_S768x2688_S96x2688_0_0, P 0⟩]) = G := by
  refine funext fun y => View.read_writes_apply_of_pieces v f G _ ?_ y (View.cover_of_tiled (s := S768x2688) _ S96x2688.size (by rfl) y)
  simp only [List.forall_mem_cons]
  refine ⟨fun x => (h 7 _ x ?_ ?_).symm, fun x => (h 6 _ x ?_ ?_).symm, fun x => (h 5 _ x ?_ ?_).symm, fun x => (h 4 _ x ?_ ?_).symm,
    fun x => (h 3 _ x ?_ ?_).symm, fun x => (h 2 _ x ?_ ?_).symm, fun x => (h 1 _ x ?_ ?_).symm, fun x => (h 0 _ x ?_ ?_).symm,
    fun p hp => absurd hp List.not_mem_nil⟩ <;> simp [Rect.emb, Rect.unit, LoadRect.idx]

/-- The same for the one column of scales. -/
theorem read_chunks1 {sp : Space} {e : EltTy} (v : View sig .tc sp S768x1 e) (f : v.ty.Contents (Elt F)) (P : Fin 8 → S96x1.Idx → Elt F e)
    (G : S768x1.Idx → Elt F e)
    (h : ∀ (b : Fin 8) (y : S768x1.Idx) (z : S96x1.Idx), (y 0).val = 96 * b.val + (z 0).val → G y = P b z) :
    v.read (Elt F) (v.writes (Elt F) f
      [⟨Rect.unit (s := S768x1) ![672, 0] S96x1.size inb_S768x1_S96x1_672_0, P 7⟩,
        ⟨Rect.unit (s := S768x1) ![576, 0] S96x1.size inb_S768x1_S96x1_576_0, P 6⟩,
        ⟨Rect.unit (s := S768x1) ![480, 0] S96x1.size inb_S768x1_S96x1_480_0, P 5⟩,
        ⟨Rect.unit (s := S768x1) ![384, 0] S96x1.size inb_S768x1_S96x1_384_0, P 4⟩,
        ⟨Rect.unit (s := S768x1) ![288, 0] S96x1.size inb_S768x1_S96x1_288_0, P 3⟩,
        ⟨Rect.unit (s := S768x1) ![192, 0] S96x1.size inb_S768x1_S96x1_192_0, P 2⟩,
        ⟨Rect.unit (s := S768x1) ![96, 0] S96x1.size inb_S768x1_S96x1_96_0, P 1⟩,
        ⟨Rect.unit (s := S768x1) ![0, 0] S96x1.size inb_S768x1_S96x1_0_0, P 0⟩]) = G := by
  refine funext fun y => View.read_writes_apply_of_pieces v f G _ ?_ y (View.cover_of_tiled (s := S768x1) _ S96x1.size (by rfl) y)
  simp only [List.forall_mem_cons]
  refine ⟨fun x => (h 7 _ x ?_).symm, fun x => (h 6 _ x ?_).symm, fun x => (h 5 _ x ?_).symm, fun x => (h 4 _ x ?_).symm,
    fun x => (h 3 _ x ?_).symm, fun x => (h 2 _ x ?_).symm, fun x => (h 1 _ x ?_).symm, fun x => (h 0 _ x ?_).symm,
    fun p hp => absurd hp List.not_mem_nil⟩ <;> simp [Rect.emb, Rect.unit, LoadRect.idx]

set_option maxHeartbeats 4000000 in
/-- The body at the first point. -/
theorem body_first (c : Dev nD) (i : grid0.Coords) (hi : k0_cond1 i = 1#1) (arg1 : Memref sig .tc .vmem S768x2688 .bf16) (harg1 : arg1.IsWhole)
    (arg2 : Memref sig .tc .vmem S2688x512 .fp8e4m3) (harg2 : arg2.IsWhole) (arg3 : Memref sig .tc .vmem S84x512 .i8) (harg3 : arg3.IsWhole)
    (arg4 : Memref sig .tc .vmem S768x512 .bf16) (harg4 : arg4.IsWhole) (arg5 : Memref sig .tc .vmem S768x2688 .fp8e4m3) (harg5 : arg5.IsWhole)
    (arg6 : Memref sig .tc .vmem S768x1 .f32) (harg6 : arg6.IsWhole) (arg7 : Memref sig .tc .vmem S768x2688 .bf16) (harg7 : arg7.IsWhole)
    (X : Vec F S768x2688 .bf16) (w : Vec F S2688x512 .fp8e4m3) (s : Vec F S84x512 .i8) (K : PUnit → sProp 𝕄) :
    iprop(owns (c : Thread nD τ) arg1 fullShare X ∗ owns (c : Thread nD τ) arg2 fullShare w ∗ owns (c : Thread nD τ) arg3 fullShare s
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare X ∗ owns (c : Thread nD τ) arg2 fullShare w ∗ owns (c : Thread nD τ) arg3 fullShare s
            ∗ owns (c : Thread nD τ) arg4 fullShare (yBlock w s (scratchOf X) (scaleOf X)) ∗ owns (c : Thread nD τ) arg5 fullShare (codesOf X)
            ∗ owns (c : Thread nD τ) arg6 fullShare (scaleOf X) ∗ owns (c : Thread nD τ) arg7 fullShare (scratchOf X)) -∗ K ⟨⟩))
      ⊢ wp frame (wpE (defs₀ (F := F)) Variants.none c none) Set.univ
          (cc0_mxfp8_linear i arg1 harg1 arg2 harg2 arg3 harg3 arg4 harg4 arg5 harg5 arg6 harg6 arg7 harg7) K := by
  simp only [cc0_mxfp8_linear_eq_skeleton]; unfold cc0_mxfp8_linear_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have e6 : ∀ f, View.read (Elt F) arg6.view (arg6.view.writes (Elt F) f (body_first.sl.H6_8 c arg1 f1)) = scaleOf (View.read (Elt F) arg1.view f1) := by
    intro f
    sl_open_run
    simp only [load_rows f1 0 (n := 0) (by decide), load_rows f1 1 (n := 96) (by decide), load_rows f1 2 (n := 192) (by decide), load_rows f1 3 (n := 288) (by decide), load_rows f1 4 (n := 384) (by decide), load_rows f1 5 (n := 480) (by decide), load_rows f1 6 (n := 576) (by decide), load_rows f1 7 (n := 672) (by decide)]
    exact read_chunks1 _ _ (fun b => chunkScale (rows (View.read (Elt F) arg1.view f1) b)) _ (scaleOf_at _)
  have e7 : ∀ f, View.read (Elt F) arg7.view (arg7.view.writes (Elt F) f (body_first.sl.H7_8 c arg1 f1)) = scratchOf (View.read (Elt F) arg1.view f1) := by
    intro f
    sl_open_run
    simp only [load_rows f1 0 (n := 0) (by decide), load_rows f1 1 (n := 96) (by decide), load_rows f1 2 (n := 192) (by decide), load_rows f1 3 (n := 288) (by decide), load_rows f1 4 (n := 384) (by decide), load_rows f1 5 (n := 480) (by decide), load_rows f1 6 (n := 576) (by decide), load_rows f1 7 (n := 672) (by decide)]
    exact read_chunks _ _ (fun b => chunkScratch (rows (View.read (Elt F) arg1.view f1) b)) _ (scratchOf_at _)
  isplitl [H4]
  · iexists _; isplitr
    swap; · iexact H4
    ipureintro
    unfold body_first.sl.v16 body_first.sl.v18 View.readCov
    rw [View.read_writes_full, View.readAt_full, View.readAt_full, View.readAt_full, View.readAt_full, e6, e7]
    rfl
  isplitl [H5]
  · iexists _; isplitr
    swap; · iexact H5
    ipureintro
    sl_open_run
    simp only [load_rows f1 0 (n := 0) (by decide), load_rows f1 1 (n := 96) (by decide), load_rows f1 2 (n := 192) (by decide), load_rows f1 3 (n := 288) (by decide), load_rows f1 4 (n := 384) (by decide), load_rows f1 5 (n := 480) (by decide), load_rows f1 6 (n := 576) (by decide), load_rows f1 7 (n := 672) (by decide)]
    exact read_chunks _ _ (fun b => chunkCodes (rows (View.read (Elt F) arg1.view f1) b)) _ (codesOf_at _)
  isplitl [H6]
  · iexists _; isplitr
    swap; · iexact H6
    ipureintro
    exact e6 _
  iexists _; isplitr
  swap; · iexact H7
  ipureintro
  exact e7 _

set_option maxHeartbeats 4000000 in
/-- The body at a later point: the codes' buffer is not touched, the scales and the scratch are only read. -/
theorem body_later (c : Dev nD) (i : grid0.Coords) (hi : ¬ k0_cond1 i = 1#1) (arg1 : Memref sig .tc .vmem S768x2688 .bf16) (harg1 : arg1.IsWhole)
    (arg2 : Memref sig .tc .vmem S2688x512 .fp8e4m3) (harg2 : arg2.IsWhole) (arg3 : Memref sig .tc .vmem S84x512 .i8) (harg3 : arg3.IsWhole)
    (arg4 : Memref sig .tc .vmem S768x512 .bf16) (harg4 : arg4.IsWhole) (arg5 : Memref sig .tc .vmem S768x2688 .fp8e4m3) (harg5 : arg5.IsWhole)
    (arg6 : Memref sig .tc .vmem S768x1 .f32) (harg6 : arg6.IsWhole) (arg7 : Memref sig .tc .vmem S768x2688 .bf16) (harg7 : arg7.IsWhole)
    (w : Vec F S2688x512 .fp8e4m3) (s : Vec F S84x512 .i8) (a : Vec F S768x1 .f32) (q : Vec F S768x2688 .bf16) (K : PUnit → sProp 𝕄) :
    iprop(owns (c : Thread nD τ) arg2 fullShare w ∗ owns (c : Thread nD τ) arg3 fullShare s
        ∗ (∃ d, owns (c : Thread nD τ) arg4 fullShare d)
        ∗ owns (c : Thread nD τ) arg6 fullShare a ∗ owns (c : Thread nD τ) arg7 fullShare q
        ∗ (iprop(owns (c : Thread nD τ) arg2 fullShare w ∗ owns (c : Thread nD τ) arg3 fullShare s
            ∗ owns (c : Thread nD τ) arg4 fullShare (yBlock w s q a)
            ∗ owns (c : Thread nD τ) arg6 fullShare a ∗ owns (c : Thread nD τ) arg7 fullShare q) -∗ K ⟨⟩))
      ⊢ wp frame (wpE (defs₀ (F := F)) Variants.none c none) Set.univ
          (cc0_mxfp8_linear i arg1 harg1 arg2 harg2 arg3 harg3 arg4 harg4 arg5 harg5 arg6 harg6 arg7 harg7) K := by
  simp only [cc0_mxfp8_linear_eq_skeleton]; unfold cc0_mxfp8_linear_skel
  unfold owns
  iintro ⟨⟨%f2, %hf2, H2⟩, ⟨%f3, %hf3, H3⟩, ⟨%d4, %f4, -, H4⟩, ⟨%f6, %hf6, H6⟩, ⟨%f7, %hf7, H7⟩, Hk⟩
  subst hf2 hf3 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_full, View.readAt_full, View.readAt_full, View.readAt_full, View.readAt_full]
    rfl
  isplitl [H6]
  · iexists f6; isplitr; · ipureintro; rfl
    iexact H6
  iexists f7; isplitr; · ipureintro; rfl
  iexact H7

end Cert.Kernel.Hand

end
-- ==== Proof.KernelObligation.lean ====
/-
  The kernel's region run over its grid of 25 column blocks.  The activations' window holds the whole array at every
  point; the weight's and its scales' windows hold their block of columns, the last of them filled out past the end of
  the array by words nothing names; the codes' and the scales' buffers and the scratch hold what the first point left.
  Of the product's buffer the data state a property: it is one block of the product of the scratch with what the two
  weight buffers held.
-/
module

public import proofs.«01_k».proof.Proof.KernelBody
public import Idealize.ShloMosaic.Lib.Pipeline.DatRel
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The data -/

/-- The activations, as the region finds them. -/
def acts (c : Dev nD) : Vec F S768x2688 .bf16 := V m c main_v0

/-- The weight's buffer at a point: its block of columns, `d` past the end of the array. -/
def wBuf (c : Dev nD) (t : Fin cfg0.N) (d : Vec F S2688x512 .fp8e4m3) : Vec F S2688x512 .fp8e4m3 :=
  win0_1.fill (grid0.coords t) d (iblk m c 1 t)
/-- The scales' buffer at a point: likewise. -/
def sBuf (c : Dev nD) (t : Fin cfg0.N) (d : Vec F S84x512 .i8) : Vec F S84x512 .i8 :=
  win0_2.fill (grid0.coords t) d (iblk m c 2 t)

/-- The scratch buffer's memref. -/
abbrev scM : Memref sig .tc .vmem S768x2688 .bf16 := Memref.whole cc0_scratch0

/-- What holds before point `n`: before the first the scratch holds anything, later the activations' codes. -/
def Phi (c : Dev nD) : ℕ → sProp 𝕄
  | 0 => Pipeline.ΦA spec0 c
  | _ + 1 => iprop(owns (c : Thread nD τ) scM fullShare (scratchOf (acts m c)) ∗ ∃ r, prngReg c r)

theorem PhiA_eq (c : Dev nD) :
    (Pipeline.ΦA spec0 c : sProp 𝕄) = iprop((∃ d, owns (c : Thread nD τ) scM fullShare d) ∗ ∃ r, prngReg c r) := by
  unfold Pipeline.ΦA; rw [scopedRest0_eq]; simp only [scM, owns_whole]; try rfl

/-- Some words past the end of the weight. -/
def junk1 : Vec F S2688x512 .fp8e4m3 := fun _ => (Elt.nonempty F _).some
/-- Some words past the end of the weight's scales. -/
def junk2 : Vec F S84x512 .i8 := fun _ => (Elt.nonempty F _).some

/-- The proof data: what each buffer holds after the body at each point, and what the scratch holds between points. -/
def dats (_ : Fin 1) (c : Dev nD) : Dat τ (Elt F) Unit ℕ (UR sig nD τ) ℕ cfg0 c where
  A w := V m c (Pipeline.arrRef spec0 w)
  after := fun
    | 0 => fun _ => acts m c
    | 1 => fun t => wBuf m c t junk1
    | 2 => fun t => sBuf m c t junk2
    | 3 => fun _ _ => (Elt.nonempty F _).some
    | 4 => fun _ => codesOf (acts m c)
    | 5 => fun _ => scaleOf (acts m c)
    | ⟨_ + 6, h⟩ => absurd h (Nat.not_lt.2 (Nat.le_add_left _ _))
  Φ t := Phi m c t.val
  q _ := fullShare
  owed _ := 0

/-- The window held to a property: the product's. -/
def mark : Fin cfg0.W → Bool := fun | 3 => true | _ => false

/-- The property: a block of the product, by what the two buffers of the weight may have held. -/
def yRel (c : Dev nD) : (w : Fin cfg0.W) → Fin cfg0.N → ((cfg0.win w).block.Idx → Elt F (cfg0.win w).elt) → Prop := fun
    | 0 => fun _ _ => True
    | 1 => fun _ _ => True
    | 2 => fun _ _ => True
    | 3 => fun t X => ∃ d1 d2, X = yBlock (wBuf m c t d1) (sBuf m c t d2) (scratchOf (acts m c)) (scaleOf (acts m c))
    | 4 => fun _ _ => True
    | 5 => fun _ _ => True
    | ⟨_ + 6, h⟩ => absurd h (Nat.not_lt.2 (Nat.le_add_left _ _))

/-! ## What the body finds -/

theorem cond_iff : ∀ t : Fin cfg0.N, k0_cond1 (grid0.coords t) = 1#1 ↔ t.val = 0 := by decide +kernel

theorem iblk0_eq (c : Dev nD) (t : Fin cfg0.N) : iblk m c 0 t = acts m c := by
  unfold iblk acts
  funext j
  show V m c main_v0 _ = V m c main_v0 j
  refine congrArg _ (funext fun a => Fin.ext ?_)
  have e : ∀ t : Fin cfg0.N, win0_0.index t = ![0, 0] := (by decide +kernel : ∀ t : Fin grid0.N, _)
  match a with
  | 0 => blk_simp [e]
  | 1 => blk_simp [e]

theorem before0 (c : Dev nD) (t : Fin cfg0.N) (d) : (dats m 0 c).before 0 t d = acts m c :=
  (before0_0_of m (dats m 0 c) rfl (fun t => (iblk0_eq m c t).symm) t d).trans (iblk0_eq m c t)

theorem before1 (c : Dev nD) (t : Fin cfg0.N) (d) : (dats m 0 c).before 1 t d = wBuf m c t d := by
  rw [Dat.before_fetched _ 1 t (fetch0_1 t)]; rfl

theorem before2 (c : Dev nD) (t : Fin cfg0.N) (d) : (dats m 0 c).before 2 t d = sBuf m c t d := by
  rw [Dat.before_fetched _ 2 t (fetch0_2 t)]; rfl

theorem idle4_zero {t : Fin cfg0.N} (h : t.val = 0) : cfg0.idle 4 (cfg0.grid.coords t) = false := by
  show (!(k0_cond1 (grid0.coords t) == 1#1)) = false
  rw [(cond_iff t).mpr h]; rfl
theorem idle4_pos {t : Fin cfg0.N} (h : t.val ≠ 0) : cfg0.idle 4 (cfg0.grid.coords t) = true := by
  show (!(k0_cond1 (grid0.coords t) == 1#1)) = true
  have := mt (cond_iff t).mp h
  simp [this]
theorem idle5_zero {t : Fin cfg0.N} (h : t.val = 0) : cfg0.idle 5 (cfg0.grid.coords t) = false := idle4_zero h
theorem idle5_pos {t : Fin cfg0.N} (h : t.val ≠ 0) : cfg0.idle 5 (cfg0.grid.coords t) = true := idle4_pos h

/-- A window stored at the first point alone and written back after the last holds, at every later point, what the first
    point left. -/
theorem before_once {c : Dev nD} (dat : Dat τ (Elt F) Unit ℕ (UR sig nD τ) ℕ cfg0 c) (w : Fin cfg0.W) (hw : (cfg0.win w).isOut = true)
    (hf : ∀ t : Fin cfg0.N, (cfg0.win w).flush t = true ↔ t.val % 25 = 24)
    (h0 : ∀ t : Fin cfg0.N, t.val = 0 → cfg0.idle w (cfg0.grid.coords t) = false)
    (h1 : ∀ t : Fin cfg0.N, t.val ≠ 0 → cfg0.idle w (cfg0.grid.coords t) = true)
    (hclip : ∀ (i : cfg0.grid.Coords) a, (cfg0.win w).clip i a = none) (G) (hG : ∀ t, dat.after w t = G) (d) :
    ∀ (n : ℕ) (h : n + 1 < cfg0.N), dat.before w ⟨n + 1, h⟩ d = G
  | n, h => by
    rw [Dat.before_of_pos _ w ⟨n + 1, h⟩ (Nat.succ_ne_zero _) ((cfg0.win w).fetch_out hw _)]
    have hn : n + 1 < 25 := h
    have hfl : (cfg0.win w).flush ⟨n, Nat.lt_of_succ_lt h⟩ = false := Bool.eq_false_iff.mpr fun hh => by
      have := (hf _).mp hh; simp only at this; omega
    show (if (cfg0.win w).flush ⟨n, _⟩ = true then d else dat.left w ⟨n, Nat.lt_of_succ_lt h⟩ d) = _
    rw [hfl, if_neg Bool.false_ne_true]
    unfold Dat.left
    cases n with
    | zero =>
      rw [h0 ⟨0, _⟩ rfl]
      unfold Dat.kept
      simp only
      rw [Pipeline.fill_of_clip_none w _ (hclip _) d (dat.after w _), Window.fill_cut, hG]
    | succ n =>
      rw [h1 ⟨n + 1, _⟩ (Nat.succ_ne_zero _)]
      exact before_once dat w hw hf h0 h1 hclip G hG d n _

theorem before4 (c : Dev nD) (t : Fin cfg0.N) (ht : t.val ≠ 0) (d) : (dats m 0 c).before 4 t d = codesOf (acts m c) := by
  obtain ⟨n, h⟩ := t
  obtain ⟨n, rfl⟩ := Nat.exists_eq_succ_of_ne_zero ht
  exact before_once (dats m 0 c) 4 rfl flush0_4 (fun _ => idle4_zero) (fun _ => idle4_pos) (fun _ _ => rfl) _ (fun _ => rfl) d n h

theorem before5 (c : Dev nD) (t : Fin cfg0.N) (ht : t.val ≠ 0) (d) : (dats m 0 c).before 5 t d = scaleOf (acts m c) := by
  obtain ⟨n, h⟩ := t
  obtain ⟨n, rfl⟩ := Nat.exists_eq_succ_of_ne_zero ht
  exact before_once (dats m 0 c) 5 rfl flush0_5 (fun _ => idle5_zero) (fun _ => idle5_pos) (fun _ _ => rfl) _ (fun _ => rfl) d n h

/-! ## The body obligation -/

/-- The body at the first point: it meets the obligation. -/
theorem sound_first (c : Dev nD) (t : Fin cfg0.N) (ht : t.val = 0) :
    iprop((dats m 0 c).Φ t.castSucc ∗ (dats m 0 c).owesAt () t.castSucc
        ∗ owns (c : Thread nD τ) (st0_0 t) fullShare (acts m c)
        ∗ (∃ d, owns (c : Thread nD τ) (st0_1 t) fullShare (wBuf m c t d))
        ∗ (∃ d, owns (c : Thread nD τ) (st0_2 t) fullShare (sBuf m c t d))
        ∗ (∃ d, owns (c : Thread nD τ) (st0_3 t) fullShare d)
        ∗ (∃ d, owns (c : Thread nD τ) (st0_4 t) fullShare d)
        ∗ (∃ d, owns (c : Thread nD τ) (st0_5 t) fullShare d))
      ⊢ wp frame (wpE (defs₀ (F := F)) Variants.none c none) Set.univ (bodyAt0 t) fun _ =>
        iprop((dats m 0 c).Φ t.succ ∗ (dats m 0 c).owesAt () t.succ
        ∗ owns (c : Thread nD τ) (st0_0 t) fullShare (acts m c)
        ∗ (∃ d, owns (c : Thread nD τ) (st0_1 t) fullShare (wBuf m c t d))
        ∗ (∃ d, owns (c : Thread nD τ) (st0_2 t) fullShare (sBuf m c t d))
        ∗ (∃ X, ⌜yRel m c 3 t X⌝ ∗ owns (c : Thread nD τ) (st0_3 t) fullShare X)
        ∗ owns (c : Thread nD τ) (st0_4 t) fullShare (codesOf (acts m c))
        ∗ owns (c : Thread nD τ) (st0_5 t) fullShare (scaleOf (acts m c))) := by
  have e0 : (dats m 0 c).Φ t.castSucc = Phi m c 0 := by show Phi m c t.val = _; rw [ht]
  have e1 : (dats m 0 c).Φ t.succ = Phi m c 1 := by show Phi m c (t.val + 1) = _; rw [ht]
  rw [e0, e1, show (dats m 0 c).owesAt () t.succ = (dats m 0 c).owesAt () t.castSucc from rfl]
  unfold Phi bodyAt0
  rw [PhiA_eq]
  iintro ⟨⟨HS, Hg⟩, HO, H0, ⟨%d1, H1⟩, ⟨%d2, H2⟩, H3, H4, H5⟩
  iapply (body_first c (grid0.coords t) ((cond_iff t).mpr ht) _ _ _ _ _ _ _ _ _ _ _ _ _ _ (acts m c) (wBuf m c t d1) (sBuf m c t d2) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [HO]; · iexact HO
  isplitl [H0]; · iexact H0
  isplitl [H1]; · iexists d1; iexact H1
  isplitl [H2]; · iexists d2; iexact H2
  isplitl [H3]
  · iexists _; isplitr
    swap; · iexact H3
    ipureintro
    exact ⟨d1, d2, rfl⟩
  isplitl [H4]; · iexact H4
  iexact H5

/-- The body at a later point: it meets the obligation. -/
theorem sound_later (c : Dev nD) (t : Fin cfg0.N) (ht : t.val ≠ 0) :
    iprop((dats m 0 c).Φ t.castSucc ∗ (dats m 0 c).owesAt () t.castSucc
        ∗ (∃ d, owns (c : Thread nD τ) (st0_1 t) fullShare (wBuf m c t d))
        ∗ (∃ d, owns (c : Thread nD τ) (st0_2 t) fullShare (sBuf m c t d))
        ∗ (∃ d, owns (c : Thread nD τ) (st0_3 t) fullShare d)
        ∗ owns (c : Thread nD τ) (st0_5 t) fullShare (scaleOf (acts m c)))
      ⊢ wp frame (wpE (defs₀ (F := F)) Variants.none c none) Set.univ (bodyAt0 t) fun _ =>
        iprop((dats m 0 c).Φ t.succ ∗ (dats m 0 c).owesAt () t.succ
        ∗ (∃ d, owns (c : Thread nD τ) (st0_1 t) fullShare (wBuf m c t d))
        ∗ (∃ d, owns (c : Thread nD τ) (st0_2 t) fullShare (sBuf m c t d))
        ∗ (∃ X, ⌜yRel m c 3 t X⌝ ∗ owns (c : Thread nD τ) (st0_3 t) fullShare X)
        ∗ owns (c : Thread nD τ) (st0_5 t) fullShare (scaleOf (acts m c))) := by
  obtain ⟨n, hn⟩ := Nat.exists_eq_succ_of_ne_zero ht
  have e0 : (dats m 0 c).Φ t.castSucc = Phi m c (n + 1) := by show Phi m c t.val = _; rw [hn]
  have e1 : (dats m 0 c).Φ t.succ = Phi m c (n + 1 + 1) := by show Phi m c (t.val + 1) = _; rw [hn]
  rw [e0, e1, show (dats m 0 c).owesAt () t.succ = (dats m 0 c).owesAt () t.castSucc from rfl]
  unfold Phi bodyAt0
  iintro ⟨⟨HS, Hg⟩, HO, ⟨%d1, H1⟩, ⟨%d2, H2⟩, H3, H5⟩
  iapply (body_later c (grid0.coords t) (mt (cond_iff t).mp ht) _ _ _ _ _ _ _ _ _ _ _ _ _ _ (wBuf m c t d1) (sBuf m c t d2)
    (scaleOf (acts m c)) (scratchOf (acts m c)) _)
  isplitl [H1]; · iexact H1
  isplitl [H2]; · iexact H2
  isplitl [H3]; · iexact H3
  isplitl [H5]; · iexact H5
  isplitl [HS]; · iexact HS
  iintro ⟨H1, H2, H3, H5, HS⟩
  isplitl [HS Hg]
  · isplitl [HS]; · iexact HS
    iexact Hg
  isplitl [HO]; · iexact HO
  isplitl [H1]; · iexists d1; iexact H1
  isplitl [H2]; · iexists d2; iexact H2
  isplitl [H3]
  · iexists _; isplitr
    swap; · iexact H3
    ipureintro
    exact ⟨d1, d2, rfl⟩
  iexact H5

/-- A block moved out of the buffer the body leaves and filled into another tail: the block over that tail. -/
theorem refill {c : Dev nD} (dat : Dat τ (Elt F) Unit ℕ (UR sig nD τ) ℕ cfg0 c) (w : Fin cfg0.W) (t : Fin cfg0.N) {d'} {G}
    (h : dat.after w t = (cfg0.win w).fill (cfg0.grid.coords t) d' G) (d) :
    (cfg0.win w).fill (cfg0.grid.coords t) d ((cfg0.win w).cut (cfg0.grid.coords t) (dat.after w t))
      = (cfg0.win w).fill (cfg0.grid.coords t) d G := by rw [h, Window.cut_fill]

theorem after1 (c : Dev nD) (t : Fin cfg0.N) : (dats m 0 c).after 1 t = wBuf m c t junk1 := rfl
theorem after2 (c : Dev nD) (t : Fin cfg0.N) : (dats m 0 c).after 2 t = sBuf m c t junk2 := rfl

/-- The body meets the obligation at every point. -/
theorem obligation (c : Dev nD) :
    BodyObligationRel (dats m 0 c) defs₀ Variants.none () Set.univ mark (yRel m c) := fun t => by
  rw [bigSep_W0, bigSep_W0]
  simp only [mark, before0, before1, before2]
  simp only [refill (dats m 0 c) 1 t (after1 m c t), refill (dats m 0 c) 2 t (after2 m c t)]
  by_cases ht : t.val = 0
  · have i4 : idle0 4 (grid0.coords t) = false := idle4_zero ht
    have i5 : idle0 5 (grid0.coords t) = false := idle5_zero ht
    simp only [i4, i5]
    iintro ⟨HΦ, HO, ⟨%d0, H0⟩, H1, H2, ⟨%Y, %hY, H3⟩, ⟨%d4, H4⟩, ⟨%d5, H5⟩⟩
    iapply (sound_first m c t ht)
    isplitl [HΦ]; · iexact HΦ
    isplitl [HO]; · iexact HO
    isplitl [H0]; · iexact H0
    isplitl [H1]; · iexact H1
    isplitl [H2]; · iexact H2
    isplitl [H3]; · iexists Y; iexact H3
    isplitl [H4]; · iexists _; iexact H4
    iexists _; iexact H5
  · have i4 : idle0 4 (grid0.coords t) = true := idle4_pos ht
    have i5 : idle0 5 (grid0.coords t) = true := idle5_pos ht
    simp only [i4, i5, before4 m c t ht, before5 m c t ht]
    iintro ⟨HΦ, HO, ⟨%d0, H0⟩, H1, H2, ⟨%Y, %hY, H3⟩, ⟨%d4, H4⟩, ⟨%d5, H5⟩⟩
    iapply (wp_wand_r Idealize.ShloMosaic.frame (wpE (defs₀ (F := F)) Variants.none (c : Thread nD τ) none) Set.univ)
    isplitl [HΦ HO H1 H2 H3 H5]
    · iapply (sound_later m c t ht)
      isplitl [HΦ]; · iexact HΦ
      isplitl [HO]; · iexact HO
      isplitl [H1]; · iexact H1
      isplitl [H2]; · iexact H2
      isplitl [H3]; · iexists Y; iexact H3
      iexact H5
    · iintro %_ ⟨HΦ, HO, H1, H2, H3, H5⟩
      isplitl [HΦ]; · iexact HΦ
      isplitl [HO]; · iexact HO
      isplitl [H0]; · iexact H0
      isplitl [H1]; · iexact H1
      isplitl [H2]; · iexact H2
      isplitl [H3]; · iexact H3
      isplitl [H4]
      · cases (win0 4).flush t
        · iexists d4; iexact H4
        · iexact H4
      · cases (win0 5).flush t
        · iexists d5; iexact H5
        · iexact H5

end Cert.Kernel.Hand

end
-- ==== Proof.KernelRun.lean ====
/-
  The run of the kernel's program: it terminates without fault, its semaphores end at zero, its arguments end as they
  began, and its arrays end as the data of Obligation.lean say.
-/
module

public import proofs.«01_k».proof.Proof.KernelObligation
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

variable (m : (ℓ : Loc nD τ sig) → Buf (Elt F) ℓ) (ρ : Dev nD → PrngReg)

theorem Phi_zero (c : Dev nD) : Pipeline.ΦA spec0 c ⊢ (dats m 0 c).Φ 0 := .rfl

theorem Phi_last (c : Dev nD) : (dats m 0 c).Φ (Fin.last cfg0.N) ⊢ Pipeline.ΦA spec0 c := by
  show Phi m c (24 + 1) ⊢ _
  rw [PhiA_eq]; unfold Phi
  iintro ⟨HS, Hg⟩
  isplitl [HS]; · iexists _; iexact HS
  iexact Hg

/-- The data, the product's window held to its property. -/
abbrev rdats (c : Dev nD) : RDat τ (Elt F) Unit ℕ (UR sig nD τ) ℕ cfg0 c := (dats m 0 c).toRRel mark (yRel m c)

/-- The run: every array as the data say, and the semaphores at zero. -/
theorem run_main : θ_run defs (onTc (τ := τ) (main (F := F))) ⟨m, fun _ => 0, ρ⟩
    (fun r => RDat.FramePost cfg0 (rdats m) (V m) r ∧ r.2.sem = fun _ => 0) :=
  Pipeline.RDat.θ_run_frame_track cfgs 0 launch0 defs₀ Variants.none (rdats m) m ρ main (fun c => (obligation m c).toRRel)
    (fun _ w => by rw [Pipeline.RDat.share]; split <;> rfl) (fun _ _ => rfl) (V m) (hmain m Variants.none) (fun _ _ => rfl) (Phi_zero m) (Phi_last m)
    (fun r => RDat.FramePost cfg0 (rdats m) (V m) r ∧ r.2.sem = fun _ => 0) (fun _ h => h)

/-- A run ending so leaves the arguments as they were. -/
theorem args_of {r : PUnit × MemSt nD τ sig (Elt F)} (h : RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    (h.arr_in c 1 rfl).trans (V_main_arg1 m c), (h.arr_in c 2 rfl).trans (V_main_arg2 m c)⟩

/-- The program terminates without fault, leaves its arguments unchanged and its semaphores at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨args_of m h.1, h.2⟩) (run_main m ρ)

end Cert.Kernel.Hand

end
-- ==== Proof.Exponent.lean ====
/-
  The exponent of a row's scale, as extended reals have it.  The kernel counts the powers of two that do not exceed a
  value, which is the value's exponent field, and shifts integers into the exponent field of a float; the reference takes
  the floor of a binary logarithm and powers of two.  Here the two are shown to be the same.
-/
module

public import Idealize.ShloMosaic.Lib.Pointwise
public import Idealize.ShloMosaic.Lib.IndicatorCount

@[expose] public section

set_option maxRecDepth 16384

noncomputable section

namespace Cert.Exponent

open Idealize.ShloMosaic

/-! ## The float whose exponent field is `k` and whose fraction is zero -/

/-- The float with exponent field `k` and fraction zero. -/
def pow (k : BitVec 32) : EReal := Ideal.ofBits .f32 (IntOp.shli .vector k 23#32)

theorem shl_fields : ∀ k : Fin 256, (BitVec.ofNat 32 k.val <<< 23).extractLsb' 31 1 = 0#1
    ∧ ((BitVec.ofNat 32 k.val <<< 23).extractLsb' 23 8).toNat = k.val
    ∧ ((BitVec.ofNat 32 k.val <<< 23).extractLsb' 0 23).toNat = 0 := by decide +kernel

/-- Field 0 is zero, field 255 is infinity, any other field `k` is 2 to the power `k − 127`. -/
theorem pow_ofNat (k : ℕ) (hk : k < 256) : pow (BitVec.ofNat 32 k)
    = if k = 255 then ⊤ else if k = 0 then 0 else (((2 : ℝ) ^ ((k : ℤ) - 127) : ℝ) : EReal) := by
  obtain ⟨h1, h2, h3⟩ := shl_fields ⟨k, hk⟩
  simp only at h1 h2 h3
  have e : IntOp.shli .vector (BitVec.ofNat 32 k) 23#32 = BitVec.ofNat 32 k <<< 23 := by
    simp [IntOp.shli]
  unfold pow
  rw [e]
  show Ideal.ieee 8 23 (BitVec.ofNat 32 k <<< 23) = _
  unfold Ideal.ieee
  simp only [h1, h2, h3]
  by_cases a : k = 255
  · simp [a]
  by_cases b : k = 0
  · simp [b]
  have hz : ((2 : ℝ) ^ ((k : ℤ) - (2 ^ (8 - 1) - 1) - (23 : ℕ))) = (2 : ℝ) ^ ((k : ℤ) - 127) / 8388608 := by
    rw [show ((k : ℤ) - (2 ^ (8 - 1) - 1) - (23 : ℕ)) = ((k : ℤ) - 127) - 23 by norm_num, zpow_sub₀ (by norm_num : (2 : ℝ) ≠ 0)]
    norm_num
  rw [if_neg (by omega), if_neg b, if_neg a, if_neg b, EReal.coe_eq_coe_iff, hz]
  have : (0#1 == 1#1) = false := by decide
  simp only [this, Bool.false_eq_true, if_false]
  push_cast
  ring

/-- An integer within the normal range put into the exponent field, offset by 127, is the power of two. -/
theorem pow_ofInt (n : ℤ) (h1 : -126 ≤ n) (h2 : n ≤ 127) :
    pow (IntOp.addi (BitVec.ofInt 32 n) 127#32) = Ideal.exp2 (((n : ℝ)) : EReal) := by
  obtain ⟨k, hk⟩ : ∃ k : ℕ, (k : ℤ) = n + 127 := ⟨(n + 127).toNat, by omega⟩
  have e : IntOp.addi (BitVec.ofInt 32 n) 127#32 = BitVec.ofNat 32 k := by
    show BitVec.ofInt 32 n + 127#32 = _
    rw [← BitVec.ofInt_natCast 32 k, hk, BitVec.ofInt_add]; rfl
  rw [e, pow_ofNat k (by omega), if_neg (by omega), if_neg (by omega)]
  show _ = ((Real.rpow 2 n : ℝ) : EReal)
  congr 1
  rw [hk, add_sub_cancel_right]
  exact (Real.rpow_intCast 2 n).symm

/-! ## The exponent field, by counting -/

/-- The number of the 255 powers of two that do not exceed `v`. -/
def field (v : EReal) : BitVec 32 :=
  Finset.univ.fold IntOp.addi 0#32 fun k : Fin 256 => BitVec.setWidth 32
    (IntOp.andi (IntOp.cmpi .sgt (BitVec.ofNat 32 k.val) 0#32) (BitVec.ofBool (decide (pow (BitVec.ofNat 32 k.val) ≤ v))))

theorem sgt_zero : ∀ k : Fin 256, IntOp.cmpi .sgt (BitVec.ofNat 32 k.val) 0#32 = BitVec.ofBool (decide (0 < k.val)) := by
  decide +kernel

/-- If the powers that do not exceed `v` are the first `n`, the count is `n`. -/
theorem field_eq (v : EReal) (n : ℕ) (hn : n ≤ 255)
    (h : ∀ k : ℕ, 0 < k → k < 256 → (pow (BitVec.ofNat 32 k) ≤ v ↔ k ≤ n)) : field v = BitVec.ofNat 32 n := by
  unfold field
  rw [IndicatorCount.fold_addi_setWidth_eq_card]
  congr 1
  have : (Finset.univ.filter fun k : Fin 256 => IntOp.andi (IntOp.cmpi .sgt (BitVec.ofNat 32 k.val) 0#32)
      (BitVec.ofBool (decide (pow (BitVec.ofNat 32 k.val) ≤ v))) = 1#1) = Finset.Ioc 0 ⟨n, by omega⟩ := by
    ext k
    rw [Finset.mem_filter, Finset.mem_Ioc, sgt_zero]
    have hk : (0 < k ↔ 0 < k.val) := Iff.rfl
    have hn' : (k ≤ ⟨n, by omega⟩ ↔ k.val ≤ n) := Iff.rfl
    rw [hk, hn']
    by_cases h0 : 0 < k.val
    · have := h k.val h0 k.isLt
      by_cases hp : pow (BitVec.ofNat 32 k.val) ≤ v
      · simp [h0, hp, this.mp hp, IntOp.andi]
      · simp [h0, hp, mt this.mpr hp, IntOp.andi]
    · simp [h0, IntOp.andi]
  rw [this, Fin.card_Ioc]; simp

/-- The kernel's exponent: the field less 126, or 0 where the field is 0 or 255. -/
def counted (v : EReal) : BitVec 32 :=
  Scalar.select (IntOp.ori (IntOp.cmpi .eq (field v) 0#32) (IntOp.cmpi .eq (field v) 255#32)) 0#32 (IntOp.subi (field v) 126#32)

theorem special : ∀ n : Fin 256, (IntOp.ori (IntOp.cmpi .eq (BitVec.ofNat 32 n.val) 0#32) (IntOp.cmpi .eq (BitVec.ofNat 32 n.val) 255#32))
    = BitVec.ofBool (decide (n.val = 0 ∨ n.val = 255)) := by decide +kernel

theorem counted_of_field (v : EReal) (n : ℕ) (hn : n < 256) (h : field v = BitVec.ofNat 32 n) :
    counted v = if n = 0 ∨ n = 255 then 0#32 else BitVec.ofInt 32 ((n : ℤ) - 126) := by
  unfold counted
  rw [h, special ⟨n, hn⟩]
  by_cases hs : n = 0 ∨ n = 255
  · simp [hs, Scalar.select]
  · simp only [hs, decide_false, if_false]
    show BitVec.ofNat 32 n - 126#32 = _
    rw [← BitVec.ofInt_natCast 32 n, sub_eq_add_neg, BitVec.ofInt_add, BitVec.sub_eq_add_neg]; rfl

/-! ## The same exponent, by the logarithm -/

/-- The reference's exponent: the floor of the binary logarithm and one, or 0 below the normal range and at infinity. -/
def logged (v : EReal) : EReal :=
  Scalar.select (IntOp.ori (BitVec.ofBool (decide (v < Ideal.ofBits .f32 8388608#32)))
      (BitVec.ofBool (decide (v = Ideal.ofBits .f32 2139095040#32)))) 0
    (Ideal.liftRound Int.floor (Ideal.div (Ideal.log v) (Ideal.log (Ideal.ofBits .f32 1073741824#32))) + 1)

theorem tiny_eq : Ideal.ofBits .f32 8388608#32 = (((2 : ℝ) ^ (-126 : ℤ) : ℝ) : EReal) :=
  (pow_ofNat 1 (by norm_num)).trans (by norm_num)
theorem inf_eq : Ideal.ofBits .f32 2139095040#32 = ⊤ := (pow_ofNat 255 (by norm_num)).trans (by norm_num)
theorem two_eq : Ideal.ofBits .f32 1073741824#32 = ((2 : ℝ) : EReal) :=
  (pow_ofNat 128 (by norm_num)).trans (by norm_num)

theorem logged_zero (v : EReal) (h : v < Ideal.ofBits .f32 8388608#32 ∨ v = Ideal.ofBits .f32 2139095040#32) : logged v = 0 := by
  unfold logged
  have : ∀ a b : Bool, a = true ∨ b = true → IntOp.ori (BitVec.ofBool a) (BitVec.ofBool b) = 1#1 := by decide
  rw [this _ _ (h.imp decide_eq_true decide_eq_true)]
  rfl

/-- The floor of the binary logarithm of a positive real. -/
def lg (r : ℝ) : ℤ := ⌊Real.log r * (Real.log 2)⁻¹⌋

theorem log_two_pos : 0 < Real.log 2 := Real.log_pos (by norm_num)

theorem zpow_lg_le (r : ℝ) (hr : 0 < r) : (2 : ℝ) ^ lg r ≤ r := by
  rw [← Real.log_le_log_iff (by positivity) hr, Real.log_zpow]
  have := Int.floor_le (Real.log r * (Real.log 2)⁻¹)
  rwa [← div_eq_mul_inv, le_div_iff₀ log_two_pos] at this

theorem lt_zpow_lg (r : ℝ) (hr : 0 < r) : r < (2 : ℝ) ^ (lg r + 1) := by
  rw [← Real.log_lt_log_iff hr (by positivity), Real.log_zpow]
  have := Int.lt_floor_add_one (Real.log r * (Real.log 2)⁻¹)
  rw [← div_eq_mul_inv, div_lt_iff₀ log_two_pos] at this
  push_cast
  exact this

/-- On a normal real the reference's exponent is that floor and one. -/
theorem logged_real (r : ℝ) (h : (2 : ℝ) ^ (-126 : ℤ) ≤ r) : logged (r : EReal) = (((lg r + 1 : ℤ) : ℝ) : EReal) := by
  have hr : 0 < r := lt_of_lt_of_le (by positivity) h
  unfold logged
  rw [tiny_eq, inf_eq, two_eq]
  have h1 : ¬ ((r : EReal) < (((2 : ℝ) ^ (-126 : ℤ) : ℝ) : EReal)) := by
    rw [EReal.coe_lt_coe_iff]; exact not_lt.mpr h
  have h2 : ¬ ((r : EReal) = ⊤) := EReal.coe_ne_top r
  simp only [h1, h2, decide_false]
  show Ideal.liftRound Int.floor (Ideal.div (if r ≤ 0 then ⊥ else ((Real.log r : ℝ) : EReal))
    (if (2 : ℝ) ≤ 0 then ⊥ else ((Real.log 2 : ℝ) : EReal))) + 1 = _
  rw [if_neg (not_le.mpr hr), if_neg (by norm_num)]
  unfold Ideal.div
  have hl : ((Real.log 2 : ℝ) : EReal) ≠ 0 := by
    rw [← EReal.coe_zero, Ne, EReal.coe_eq_coe_iff]; exact (Real.log_pos (by norm_num)).ne'
  rw [if_neg hl, ← EReal.coe_inv, ← EReal.coe_mul]
  show (((⌊Real.log r * (Real.log 2)⁻¹⌋ : ℤ) : ℝ) : EReal) + 1 = _
  push_cast; rfl

/-- The count on a normal real is the floor of the binary logarithm, offset. -/
theorem field_real (r : ℝ) (n : ℕ) (h0 : 0 < n) (hn : n < 255) (h1 : (2 : ℝ) ^ ((n : ℤ) - 127) ≤ r)
    (h2 : r < (2 : ℝ) ^ ((n : ℤ) - 127 + 1)) : field (r : EReal) = BitVec.ofNat 32 n := by
  refine field_eq _ n (by omega) fun k hk0 hk => ?_
  rw [pow_ofNat k hk]
  by_cases a : k = 255
  · simp only [a, if_true, top_le_iff, EReal.coe_ne_top, false_iff]; omega
  rw [if_neg a, if_neg (by omega), EReal.coe_le_coe_iff]
  constructor
  · intro h
    have := (zpow_lt_zpow_iff_right₀ (by norm_num : (1 : ℝ) < 2)).mp (lt_of_le_of_lt h h2)
    omega
  · intro h
    exact le_trans ((zpow_le_zpow_iff_right₀ (by norm_num : (1 : ℝ) < 2)).mpr (by omega)) h1

/-- The two exponents are one integer, within the normal range, at any value that is infinite or below 2 to the 120. -/
theorem exponent (v : EReal) (h : v = ⊤ ∨ (0 ≤ v ∧ v < (((2 : ℝ) ^ (120 : ℤ) : ℝ) : EReal))) :
    ∃ n : ℤ, -126 ≤ n ∧ n ≤ 126 ∧ counted v = BitVec.ofInt 32 n ∧ logged v = (((n : ℤ) : ℝ) : EReal) := by
  rcases h with h | ⟨h0, h⟩
  · subst h
    have f : field ⊤ = BitVec.ofNat 32 255 := field_eq _ 255 (by norm_num) fun k _ hk => ⟨fun _ => by omega, fun _ => le_top⟩
    refine ⟨0, by norm_num, by norm_num, ?_, ?_⟩
    · rw [counted_of_field _ 255 (by norm_num) f]; rfl
    · rw [logged_zero _ (Or.inr inf_eq.symm)]; norm_num
  obtain ⟨r, rfl⟩ : ∃ r : ℝ, (r : EReal) = v :=
    ⟨v.toReal, EReal.coe_toReal (lt_of_lt_of_le h le_top).ne (lt_of_lt_of_le EReal.bot_lt_zero h0).ne'⟩
  rw [EReal.coe_lt_coe_iff] at h
  by_cases ht : r < (2 : ℝ) ^ (-126 : ℤ)
  · have f : field r = BitVec.ofNat 32 0 := by
      refine field_eq _ 0 (by norm_num) fun k hk0 hk => ⟨fun hp => ?_, fun hp => by omega⟩
      rw [pow_ofNat k hk] at hp
      by_cases a : k = 255
      · simp [a] at hp
      rw [if_neg a, if_neg (by omega), EReal.coe_le_coe_iff] at hp
      have := (zpow_lt_zpow_iff_right₀ (by norm_num : (1 : ℝ) < 2)).mp (lt_of_le_of_lt hp ht)
      omega
    refine ⟨0, by norm_num, by norm_num, ?_, ?_⟩
    · rw [counted_of_field _ 0 (by norm_num) f]; rfl
    · rw [logged_zero _ (Or.inl (by rw [tiny_eq, EReal.coe_lt_coe_iff]; exact ht))]; norm_num
  have ht := not_lt.mp ht
  have hr : 0 < r := lt_of_lt_of_le (by positivity) ht
  have l1 : (2 : ℝ) ^ lg r ≤ r := zpow_lg_le r hr
  have l2 : r < (2 : ℝ) ^ (lg r + 1) := lt_zpow_lg r hr
  have b1 : -126 < lg r + 1 := (zpow_lt_zpow_iff_right₀ (by norm_num : (1 : ℝ) < 2)).mp (lt_of_le_of_lt ht l2)
  have b2 : lg r < 120 := (zpow_lt_zpow_iff_right₀ (by norm_num : (1 : ℝ) < 2)).mp (lt_of_le_of_lt l1 h)
  obtain ⟨k, hk⟩ : ∃ k : ℕ, (k : ℤ) = lg r + 127 := ⟨(lg r + 127).toNat, by omega⟩
  have f : field r = BitVec.ofNat 32 k := field_real r k (by omega) (by omega) (by rw [hk]; simpa using l1) (by rw [hk]; simpa using l2)
  refine ⟨lg r + 1, by omega, by omega, ?_, logged_real r ht⟩
  rw [counted_of_field _ k (by omega) f, if_neg (by omega), hk]
  congr 1; omega

end Cert.Exponent

end
-- ==== Proof.Spec.lean ====
/-
  The mathematics both programs compute, entry by entry: the scale of a row of activations, the code of an entry of the
  row, the dequantised weight and the product.  Each is written as the reference writes it, followed by the theorem that
  the kernel's way of writing it is the same.
-/
module

public import proofs.«01_k».proof.Proof.Exponent

@[expose] public section

set_option maxRecDepth 16384

noncomputable section

namespace Cert.Spec

open Idealize.ShloMosaic Cert.Exponent

/-! ## A row's maximum -/

/-- The largest absolute value in a row. -/
def rowMax {n : ℕ} (x : Fin n → EReal) : EReal := Finset.univ.fold max ⊥ fun k => max (x k) (-x k)

/-- The largest absolute value over 448. -/
def ratio {n : ℕ} (x : Fin n → EReal) : EReal := rowMax x * Ideal.ofBits .f32 991054117#32

/-- An entry of a row allowed by the precondition: a finite bfloat16's size, or infinite. -/
def InRange (a : EReal) : Prop := max a (-a) ≤ Ideal.ofBits .bf16 0x7F7F#16 ∨ max a (-a) = ⊤

theorem largest_eq : Ideal.ofBits .bf16 0x7F7F#16 = ((255 * (2 : ℝ) ^ (120 : ℤ) : ℝ) : EReal) := by
  simp [Ideal.ofBits, Ideal.ieee, -EReal.coe_mul]

theorem recip_eq : Ideal.ofBits .f32 991054117#32 = ((9586981 * (2 : ℝ) ^ (-32 : ℤ) : ℝ) : EReal) := by
  simp [Ideal.ofBits, Ideal.ieee, -EReal.coe_mul]

theorem abs_nonneg (a : EReal) : 0 ≤ max a (-a) := by
  rcases le_total 0 a with h | h
  · exact le_max_of_le_left h
  · exact le_max_of_le_right (by simpa using EReal.neg_le_neg_iff.mpr h)

/-- A row of allowed entries: the ratio is infinite, or not negative and below 2 to the 120. -/
theorem ratio_range {n : ℕ} (hn : 0 < n) (x : Fin n → EReal) (h : ∀ k, InRange (x k)) :
    ratio x = ⊤ ∨ (0 ≤ ratio x ∧ ratio x < (((2 : ℝ) ^ (120 : ℤ) : ℝ) : EReal)) := by
  have hc : (0 : ℝ) < 9586981 * (2 : ℝ) ^ (-32 : ℤ) := by positivity
  have hc' : (0 : EReal) ≤ ((9586981 * (2 : ℝ) ^ (-32 : ℤ) : ℝ) : EReal) := EReal.coe_nonneg.mpr hc.le
  unfold ratio
  rw [recip_eq]
  by_cases ht : ∃ k, max (x k) (-x k) = ⊤
  · obtain ⟨k, hk⟩ := ht
    left
    have : rowMax x = ⊤ := top_le_iff.mp (Finset.le_fold_max _ |>.mpr (Or.inr ⟨k, Finset.mem_univ k, hk.ge⟩))
    rw [this, EReal.top_mul_coe_of_pos hc]
  · right
    have h0 : 0 ≤ rowMax x := Finset.le_fold_max _ |>.mpr (Or.inr ⟨⟨0, hn⟩, Finset.mem_univ _, abs_nonneg _⟩)
    have h1 : rowMax x ≤ Ideal.ofBits .bf16 0x7F7F#16 :=
      Finset.fold_max_le _ |>.mpr ⟨bot_le, fun k _ => (h k).resolve_right fun e => ht ⟨k, e⟩⟩
    refine ⟨mul_nonneg h0 hc', lt_of_le_of_lt (mul_le_mul_of_nonneg_right h1 hc') ?_⟩
    rw [largest_eq, ← EReal.coe_mul, EReal.coe_lt_coe_iff]
    norm_num

/-! ## Scale and codes -/

/-- The scale of a row: a power of two. -/
def scale {n : ℕ} (x : Fin n → EReal) : EReal := Ideal.exp2 (logged (ratio x))

/-- The code of an entry: the entry over the scale, clipped. -/
def code {n : ℕ} (x : Fin n → EReal) (l : Fin n) : EReal :=
  min (Ideal.ofBits .f32 1138753536#32) (max (Ideal.ofBits .f32 3286237184#32) (x l * Ideal.exp2 (0 - logged (ratio x))))

/-- The kernel's scale, its exponent counted and shifted into place, is the reference's. -/
theorem scale_eq {n : ℕ} (hn : 0 < n) (x : Fin n → EReal) (h : ∀ k, InRange (x k)) :
    pow (IntOp.addi (counted (ratio x)) 127#32) = scale x := by
  obtain ⟨e, h1, h2, h3, h4⟩ := exponent _ (ratio_range hn x h)
  unfold scale
  rw [h3, h4, pow_ofInt e h1 (by omega)]

/-- The factor the kernel multiplies by is the reference's. -/
theorem inv_eq {n : ℕ} (hn : 0 < n) (x : Fin n → EReal) (h : ∀ k, InRange (x k)) :
    pow (IntOp.addi (IntOp.subi 0#32 (counted (ratio x))) 127#32) = Ideal.exp2 (0 - logged (ratio x)) := by
  obtain ⟨e, h1, h2, h3, h4⟩ := exponent _ (ratio_range hn x h)
  have : IntOp.subi 0#32 (BitVec.ofInt 32 e) = BitVec.ofInt 32 (-e) := by
    show 0#32 - BitVec.ofInt 32 e = _
    rw [BitVec.ofInt_neg, BitVec.zero_sub]
  rw [h3, h4, this, pow_ofInt (-e) (by omega) (by omega), zero_sub, ← EReal.coe_neg]
  push_cast; rfl

/-! ## The dequantised weight -/

/-- The scale of a block of the weight: 2 to the power `s − 127`, 0 for 0 and infinity for 255. -/
def block (s : BitVec 8) : EReal :=
  if ((((BitVec.setWidth 32 s).toInt : ℝ)) : EReal) = 0 then 0
  else if (((BitVec.setWidth 32 s).toInt : ℝ) : EReal) = Ideal.ofBits .f32 1132396544#32 then Ideal.ofBits .f32 2139095040#32
  else Ideal.exp2 ((((BitVec.setWidth 32 s).toInt : ℝ) : EReal) - Ideal.ofBits .f32 1123942400#32)

theorem c255_eq : Ideal.ofBits .f32 1132396544#32 = ((255 : ℝ) : EReal) := by
  simp [Ideal.ofBits, Ideal.ieee, -EReal.coe_mul]; norm_num
theorem c127_eq : Ideal.ofBits .f32 1123942400#32 = ((127 : ℝ) : EReal) := by
  simp [Ideal.ofBits, Ideal.ieee, -EReal.coe_mul]; norm_num

theorem widen : ∀ s : BitVec 8, BitVec.setWidth 32 s = BitVec.ofNat 32 s.toNat
    ∧ (BitVec.setWidth 32 s).toInt = (s.toNat : ℤ) := by decide +kernel

/-- The kernel's block scale, the byte shifted into the exponent field, is the reference's. -/
theorem block_eq (s : BitVec 8) : pow (BitVec.setWidth 32 s) = block s := by
  obtain ⟨h1, h2⟩ := widen s
  have hs := s.isLt
  unfold block
  rw [h2, h1, pow_ofNat _ (by omega), c255_eq, c127_eq, inf_eq]
  generalize s.toNat = k at *
  have e0 : ((((k : ℤ) : ℝ) : EReal) = 0) ↔ k = 0 := by
    rw [← EReal.coe_zero, EReal.coe_eq_coe_iff]; norm_cast
  have e1 : ((((k : ℤ) : ℝ) : EReal) = ((255 : ℝ) : EReal)) ↔ k = 255 := by
    rw [EReal.coe_eq_coe_iff]; norm_cast
  simp only [e0, e1]
  by_cases a : k = 255
  · simp [a]
  by_cases b : k = 0
  · simp [b]
  rw [if_neg a, if_neg b, if_neg b, if_neg a, ← EReal.coe_sub]
  show _ = ((Real.rpow 2 _ : ℝ) : EReal)
  congr 1
  rw [show (((k : ℤ) : ℝ) - 127) = (((k : ℤ) - 127 : ℤ) : ℝ) by push_cast; rfl]
  exact (Real.rpow_intCast 2 _).symm

/-! ## The product -/

/-- One entry of the product: a row of activations against a column of the weight and that column's block scales. -/
def product (x : Fin 2688 → EReal) (w : Fin 2688 → EReal) (s : Fin 84 → BitVec 8) : EReal :=
  (∑ k : Fin 2688, code x k * (w k * block (s ⟨k.val / 32, by omega⟩))) * scale x

end Cert.Spec

end
-- ==== Proof.KernelBlock.lean ====
/-
  What the kernel's blocks hold over the extended reals, entry by entry: the scale and the codes of a row, and an entry of
  one block of the product.
-/
module

public import proofs.«01_k».proof.Proof.Body
public import proofs.«01_k».proof.Proof.Spec

@[expose] public section

set_option maxRecDepth 16384

noncomputable section

namespace Cert.KernelIdeal.Hand

open Idealize.ShloMosaic Cert.KernelIdeal Cert.KernelIdeal.Gen Cert.Exponent Cert.Spec

theorem init_bf16 : Ideal.ofBits .bf16 65408#16 = ⊥ := by simp [Ideal.ofBits, Ideal.ieee]

/-- The exponent the kernel finds for a row of a chunk. -/
theorem exponent_at (v : Vec Ideal S96x2688 .bf16) (r : Fin 96) :
    k0_pay4 v (ix2 r 0) = counted (ratio fun k => v (ix2 r k)) := by
  unfold counted field ratio rowMax pow
  rw [← init_bf16]
  pointwise [k0_pay4, k0_pay3]
  rfl

theorem chunkScale_at (v : Vec Ideal S96x2688 .bf16) (r : Fin 96) (h : ∀ k, InRange (v (ix2 r k))) :
    chunkScale v (ix2 r 0) = scale fun k => v (ix2 r k) := by
  rw [← scale_eq (by norm_num) _ h, ← exponent_at]
  unfold pow
  generalize hk : k0_pay4 v (ix2 r 0) = e
  pointwise [chunkScale, k0_pay5]
  rw [hk]

theorem chunkScratch_at (v : Vec Ideal S96x2688 .bf16) (r : Fin 96) (l : Fin 2688) (h : ∀ k, InRange (v (ix2 r k))) :
    chunkScratch v (ix2 r l) = code (fun k => v (ix2 r k)) l := by
  unfold code
  rw [← inv_eq (by norm_num) _ h, ← exponent_at]
  unfold pow
  generalize hk : k0_pay4 v (ix2 r 0) = e
  pointwise [chunkScratch, k0_pay10, k0_pay9, k0_pay6, k0_pay7, k0_pay8, k0_pay3]
  rw [hk]

theorem chunkCodes_at (v : Vec Ideal S96x2688 .bf16) (r : Fin 96) (l : Fin 2688) (h : ∀ k, InRange (v (ix2 r k))) :
    chunkCodes v (ix2 r l) = code (fun k => v (ix2 r k)) l := by
  rw [← chunkScratch_at v r l h]
  pointwise [chunkCodes, chunkScratch, k0_pay10, k0_pay9]

/-- A row of a chunk is a row of the whole. -/
theorem rows_at (X : Vec Ideal S768x2688 .bf16) (i : Fin 768) (k : Fin 2688) :
    rows X (chunkOf i) (ix2 (inChunk i) k) = X (ix2 i k) := by
  unfold rows
  refine congrArg X (funext fun a => ?_)
  match a with
  | 0 => refine Fin.ext ?_; show 96 * (i.val / 96) + i.val % 96 = i.val; omega
  | 1 => rfl

theorem row_eq (X : Vec Ideal S768x2688 .bf16) (i : Fin 768) :
    (fun k => rows X (chunkOf i) (ix2 (inChunk i) k)) = fun k => X (ix2 i k) := funext (rows_at X i)

variable (X : Vec Ideal S768x2688 .bf16) (hX : ∀ z, InRange (X z))
include hX

/-- The scale of each row. -/
theorem scaleOf_eq (i : Fin 768) : scaleOf X (ix2 i 0) = scale fun k => X (ix2 i k) := by
  have e : scaleOf X (ix2 i 0) = chunkScale (rows X (chunkOf i)) (ix2 (inChunk i) 0) := by
    unfold scaleOf
    refine congrArg _ (funext fun a => ?_)
    match a with
    | 0 => rfl
    | 1 => rfl
  rw [e, chunkScale_at _ _ fun k => hX _, row_eq]

/-- The code of each entry. -/
theorem codesOf_eq (i : Fin 768) (l : Fin 2688) : codesOf X (ix2 i l) = code (fun k => X (ix2 i k)) l := by
  have e : codesOf X (ix2 i l) = chunkCodes (rows X (chunkOf i)) (ix2 (inChunk i) l) := by
    unfold codesOf
    refine congrArg _ (funext fun a => ?_)
    match a with
    | 0 => rfl
    | 1 => rfl
  rw [e, chunkCodes_at _ _ _ fun k => hX _, row_eq]

/-- The code of each entry, in the scratch. -/
theorem scratchOf_eq (i : Fin 768) (l : Fin 2688) : scratchOf X (ix2 i l) = code (fun k => X (ix2 i k)) l := by
  have e : scratchOf X (ix2 i l) = chunkScratch (rows X (chunkOf i)) (ix2 (inChunk i) l) := by
    unfold scratchOf
    refine congrArg _ (funext fun a => ?_)
    match a with
    | 0 => rfl
    | 1 => rfl
  rw [e, chunkScratch_at _ _ _ fun k => hX _, row_eq]

/-- An entry of one block of the product: column `j` of the two weight buffers alone is read. -/
theorem yBlock_eq (w : Vec Ideal S2688x512 .fp8e4m3) (s : Vec Ideal S84x512 .i8) (i : Fin 768) (j : Fin 512) :
    yBlock w s (scratchOf X) (scaleOf X) (ix2 i j)
      = product (fun k => X (ix2 i k)) (fun k => w (ix2 k j)) (fun b => s (ix2 b j)) := by
  unfold product
  simp only [← block_eq, ← scratchOf_eq X hX, ← scaleOf_eq X hX]
  unfold pow
  generalize scratchOf X = q
  generalize scaleOf X = a
  pointwise [yBlock, k0_pay2]

end Cert.KernelIdeal.Hand

end
-- ==== Proof.Results.lean ====
/-
  The three results as functions of the three arguments: the product, the codes and the scales.
-/
module

public import proofs.«01_k».proof.Proof.Spec

@[expose] public section

noncomputable section

namespace Cert.Spec

open Idealize.ShloMosaic

/-- The activations, one array of 768 rows. -/
abbrev X : Shape := ⟨3, ![1, 768, 2688]⟩
/-- The weight. -/
abbrev W : Shape := ⟨2, ![2688, 12672]⟩
/-- The weight's block scales, one for 32 rows of a column. -/
abbrev S : Shape := ⟨2, ![84, 12672]⟩
/-- The product. -/
abbrev Y : Shape := ⟨2, ![768, 12672]⟩
/-- The codes. -/
abbrev C : Shape := ⟨2, ![768, 2688]⟩
/-- The scales. -/
abbrev A : Shape := ⟨2, ![768, 1]⟩

/-- Row `i` of the activations. -/
def row (x : Vec Ideal X .bf16) (i : Fin 768) : Fin 2688 → EReal := fun k => x (ix3 0 i k)

/-- The product of every row with every column. -/
def products (x : Vec Ideal X .bf16) (w : Vec Ideal W .fp8e4m3) (s : Vec Ideal S .i8) : Vec Ideal Y .bf16 :=
  fun z => product (row x (z 0)) (fun k => w (ix2 k (z 1))) (fun b => s (ix2 b (z 1)))

/-- The code of every entry. -/
def codes (x : Vec Ideal X .bf16) : Vec Ideal C .fp8e4m3 := fun z => code (row x (z 0)) (z 1)

/-- The scale of every row. -/
def scales (x : Vec Ideal X .bf16) : Vec Ideal A .f32 := fun z => scale (row x (z 0))

end Cert.Spec

end
-- ==== Proof.KernelValue.lean ====
/-
  What the kernel's three result arrays hold after its run, over the extended reals, where every activation is in range.
-/
module

public import proofs.«01_k».proof.Proof.Run
public import proofs.«01_k».proof.Proof.KernelBlock
public import proofs.«01_k».proof.Proof.Results

@[expose] public section

set_option maxRecDepth 16384

noncomputable section

namespace Cert.KernelIdeal.Hand

open Idealize.ShloMosaic Idealize.ShloMosaic.TcCoe Idealize.SL.Sem
open Cert.KernelIdeal Cert.KernelIdeal.Gen Cert.Spec
open Idealize.ShloMosaic.Pipeline (Dat RDat Cfg Window)

variable (m : (ℓ : Loc nD τ sig) → Buf (Elt Ideal) ℓ) (c : Dev nD)

/-- The three arguments. -/
abbrev argX : Vec Ideal X .bf16 := m ((c.tc : Thread nD τ).loc main_arg0)
abbrev argW : Vec Ideal W .fp8e4m3 := m ((c.tc : Thread nD τ).loc main_arg1)
abbrev argS : Vec Ideal S .i8 := m ((c.tc : Thread nD τ).loc main_arg2)

/-- The activations as the region finds them are the argument's rows. -/
theorem acts_at (i : Fin 768) (k : Fin 2688) : acts m c (ix2 i k) = argX m c (ix3 0 i k) := by
  unfold acts
  entry_read
  pointwise

/-- How far the blocks of columns reach: the last is cut at the array's end. -/
theorem win0_1_ext : ∀ t : Fin grid0.N, win0_1.xsize (grid0.coords t) 0 = 2688
    ∧ win0_1.xsize (grid0.coords t) 1 = min 512 (12672 - 512 * t.val) := by decide +kernel
theorem win0_2_ext : ∀ t : Fin grid0.N, win0_2.xsize (grid0.coords t) 0 = 84
    ∧ win0_2.xsize (grid0.coords t) 1 = min 512 (12672 - 512 * t.val) := by decide +kernel
theorem win0_3_ext : ∀ t : Fin grid0.N, win0_3.xsize (grid0.coords t) 0 = 768
    ∧ win0_3.xsize (grid0.coords t) 1 = min 512 (12672 - 512 * t.val) := by decide +kernel

/-- A column of the weight's buffer at a point, where the block reaches. -/
theorem wBuf_at (t : Fin cfg0.N) (d) (k : Fin 2688) (j : Fin 512) (h : 512 * t.val + j.val < 12672) :
    wBuf m c t d (ix2 k j) = argW m c (ix2 k ⟨512 * t.val + j.val, h⟩) := by
  have hm : win0_1.moved (grid0.coords t) (ix2 k j) = true := by
    refine (win0_1.moved_iff _ _).mpr fun a => ?_
    match a with
    | 0 => rw [(win0_1_ext t).1]; exact k.isLt
    | 1 => rw [(win0_1_ext t).2]; show j.val < _; have := j.isLt; omega
  unfold wBuf Window.fill
  rw [dif_pos hm]
  unfold iblk
  show V m c main_arg1 _ = _
  rw [V_main_arg1 m c]
  refine congrArg _ (funext fun a => Fin.ext ?_)
  have e : ∀ t : Fin cfg0.N, win0_1.index t = ![0, t.val] := (by decide +kernel : ∀ t : Fin grid0.N, _)
  match a with
  | 0 => blk_simp [e]
  | 1 => blk_simp [e]; show t.val * 512 + j.val = 512 * t.val + j.val; omega

/-- A column of the scales' buffer at a point, where the block reaches. -/
theorem sBuf_at (t : Fin cfg0.N) (d) (b : Fin 84) (j : Fin 512) (h : 512 * t.val + j.val < 12672) :
    sBuf m c t d (ix2 b j) = argS m c (ix2 b ⟨512 * t.val + j.val, h⟩) := by
  have hm : win0_2.moved (grid0.coords t) (ix2 b j) = true := by
    refine (win0_2.moved_iff _ _).mpr fun a => ?_
    match a with
    | 0 => rw [(win0_2_ext t).1]; exact b.isLt
    | 1 => rw [(win0_2_ext t).2]; show j.val < _; have := j.isLt; omega
  unfold sBuf Window.fill
  rw [dif_pos hm]
  unfold iblk
  show V m c main_arg2 _ = _
  rw [V_main_arg2 m c]
  refine congrArg _ (funext fun a => Fin.ext ?_)
  have e : ∀ t : Fin cfg0.N, win0_2.index t = ![0, t.val] := (by decide +kernel : ∀ t : Fin grid0.N, _)
  match a with
  | 0 => blk_simp [e]
  | 1 => blk_simp [e]; show t.val * 512 + j.val = 512 * t.val + j.val; omega

theorem whole4 : win0_4.WholeAt ⟨24, by decide⟩ := by decide +kernel
theorem whole5 : win0_5.WholeAt ⟨24, by decide⟩ := by decide +kernel
theorem covers3 : win0_3.Covers := by decide +kernel

/-- A run's end, at a window whose contents the data name. -/
theorem end_eq {r : PUnit × MemSt nD τ sig (Elt Ideal)} (h : RDat.FramePost cfg0 (rdats m) (V m) r) {w : Fin cfg0.W}
    (hw : mark w = false) : r.2.mem ((cfg0.spec w).arr.view.loc (c.tc : Thread nD τ)) = (dats m 0 c).arrAt w cfg0.N :=
  (((dats m 0 c).toR.override_arrAt (by simp only [hw]) _ _).trans ((dats m 0 c).toR_arrAt_iff w _ _)).mp ((h c).1 w)

variable (hX : ∀ z, InRange (argX m c z))
include hX

theorem acts_range (z : S768x2688.Idx) : InRange (acts m c z) := by
  have e : acts m c z = argX m c (ix3 0 (z 0) (z 1)) := (congrArg (acts m c) (eq_ix2 z)).trans (acts_at m c (z 0) (z 1))
  rw [e]
  exact hX _

omit hX in
theorem acts_row (i : Fin 768) : (fun k => acts m c (ix2 i k)) = row (argX m c) i := funext (acts_at m c i)

/-- What the first point leaves in the codes' buffer. -/
theorem codesOf_acts : codesOf (acts m c) = codes (argX m c) := by
  funext z
  obtain ⟨i, l, rfl⟩ : ∃ (i : Fin 768) (l : Fin 2688), z = ix2 i l := ⟨z 0, z 1, eq_ix2 z⟩
  refine (codesOf_eq _ (acts_range m c hX) i l).trans ?_
  rw [acts_row]
  rfl

/-- What the first point leaves in the scales' buffer. -/
theorem scaleOf_acts : scaleOf (acts m c) = scales (argX m c) := by
  funext z
  obtain ⟨i, l, rfl⟩ : ∃ (i : Fin 768) (l : Fin 1), z = ix2 i l := ⟨z 0, z 1, eq_ix2 z⟩
  obtain rfl : l = 0 := Subsingleton.elim _ _
  refine (scaleOf_eq _ (acts_range m c hX) i).trans ?_
  rw [acts_row]
  rfl

/-- What a point leaves in the product's buffer, where its block reaches. -/
theorem yBlock_acts (t : Fin cfg0.N) (d1 d2) (i : Fin 768) (j : Fin 512) (h : 512 * t.val + j.val < 12672) :
    yBlock (wBuf m c t d1) (sBuf m c t d2) (scratchOf (acts m c)) (scaleOf (acts m c)) (ix2 i j)
      = products (argX m c) (argW m c) (argS m c) (ix2 i (⟨512 * t.val + j.val, h⟩ : Fin 12672)) := by
  have hw : (fun k => wBuf m c t d1 (ix2 k j)) = fun k => argW m c (ix2 k ⟨512 * t.val + j.val, h⟩) :=
    funext fun k => wBuf_at m c t d1 k j h
  have hs : (fun b => sBuf m c t d2 (ix2 b j)) = fun b => argS m c (ix2 b ⟨512 * t.val + j.val, h⟩) :=
    funext fun b => sBuf_at m c t d2 b j h
  refine (yBlock_eq (acts m c) (acts_range m c hX) _ _ i j).trans ?_
  rw [acts_row, hw, hs]
  rfl

/-- After the run the second result holds the codes. -/
theorem codes_end {r : PUnit × MemSt nD τ sig (Elt Ideal)} (h : RDat.FramePost cfg0 (rdats m) (V m) r) :
    r.2.mem ((c.tc : Thread nD τ).loc main_v1_1) = codes (argX m c) := by
  refine (end_eq m c h (w := 4) rfl).trans ?_
  refine (dats m 0 c).arrAt_eq_of_after_last 4 ⟨24, by decide⟩ whole4 _ fun j => ?_
  exact congrFun (codesOf_acts m c hX) j

/-- After the run the third result holds the scales. -/
theorem scales_end {r : PUnit × MemSt nD τ sig (Elt Ideal)} (h : RDat.FramePost cfg0 (rdats m) (V m) r) :
    r.2.mem ((c.tc : Thread nD τ).loc main_v1_2) = scales (argX m c) := by
  refine (end_eq m c h (w := 5) rfl).trans ?_
  refine (dats m 0 c).arrAt_eq_of_after_last 5 ⟨24, by decide⟩ whole5 _ fun j => ?_
  exact congrFun (scaleOf_acts m c hX) j

/-- After the run the first result holds the product. -/
theorem products_end {r : PUnit × MemSt nD τ sig (Elt Ideal)} (h : RDat.FramePost cfg0 (rdats m) (V m) r) :
    r.2.mem ((c.tc : Thread nD τ).loc main_v1_0) = products (argX m c) (argW m c) (argS m c) := by
  obtain ⟨after, hL, hA⟩ := RDat.FramePost.exists_exact h c
  refine (hA 3).trans ?_
  refine Dat.arrAt_eq_of_covers _ 3 _ covers3 fun t hf y => ?_
  obtain ⟨d1, d2, hY⟩ := (dats m 0 c).toRRel_leaves (w := 3) rfl (hL 3 t hf)
  have h0 : (y 0).val < 768 := lt_of_lt_of_eq (y 0).isLt (win0_3_ext t).1
  have h1 : (y 1).val < min 512 (12672 - 512 * t.val) := lt_of_lt_of_eq (y 1).isLt (win0_3_ext t).2
  have h2 : (y 1).val < 512 := by omega
  have h3 : 512 * t.val + (y 1).val < 12672 := by omega
  have e1 : win0_3.xinj (grid0.coords t) y = ix2 (⟨(y 0).val, h0⟩ : Fin 768) (⟨(y 1).val, h2⟩ : Fin 512) := by
    funext a
    match a with
    | 0 => rfl
    | 1 => rfl
  have e2 : (win0_3.blk t).view.emb y = ix2 (⟨(y 0).val, h0⟩ : Fin 768) (⟨512 * t.val + (y 1).val, h3⟩ : Fin 12672) := by
    have e : ∀ t : Fin cfg0.N, win0_3.index t = ![0, t.val] := (by decide +kernel : ∀ t : Fin grid0.N, _)
    refine funext fun a => Fin.ext ?_
    match a with
    | 0 => blk_simp [e]
    | 1 => blk_simp [e]; show t.val * 512 + (y 1).val = 512 * t.val + (y 1).val; omega
  refine (congrFun hY (win0_3.xinj (grid0.coords t) y)).trans ?_
  refine (congrArg _ e1).trans ?_
  refine (yBlock_acts m c hX t d1 d2 _ _ h3).trans ?_
  exact (congrArg (products (argX m c) (argW m c) (argS m c)) e2).symm

end Cert.KernelIdeal.Hand

end
-- ==== Proof.ReferenceBlock.lean ====
/-
  What the reference's body computes over the extended reals, entry by entry.
-/
module

public import proofs.«01_k».proof.Proof.Gen.ReferenceIdeal.Frame
public import proofs.«01_k».proof.Proof.Spec

@[expose] public section

set_option maxRecDepth 16384

noncomputable section

namespace Cert.ReferenceIdeal.Hand

open Idealize.ShloMosaic Cert.ReferenceIdeal Cert.ReferenceIdeal.Gen Cert.Exponent Cert.Spec

theorem init_f32 : Ideal.ofBits .f32 4286578688#32 = ⊥ := by simp [Ideal.ofBits, Ideal.ieee]

/-- The exponent the reference finds for a row. -/
theorem exponent_at (v : Vec Ideal S768x2688 .bf16) (r : Fin 768) :
    k0_pay3 v (ix2 r 0) = logged (ratio fun k => v (ix2 r k)) := by
  unfold logged ratio rowMax
  rw [← init_f32]
  pointwise [k0_pay3, k0_pay2]
  rfl

/-- The scale of a row. -/
theorem scale_at (v : Vec Ideal S768x2688 .bf16) (r : Fin 768) :
    k0_pay4 v (ix2 r 0) = scale fun k => v (ix2 r k) := by
  unfold scale
  rw [← exponent_at]
  pointwise [k0_pay4]
  rfl

/-- The code of an entry. -/
theorem code_at (v : Vec Ideal S768x2688 .bf16) (r : Fin 768) (l : Fin 2688) :
    k0_pay5 v (ix2 r l) = code (fun k => v (ix2 r k)) l := by
  unfold code
  rw [← exponent_at]
  pointwise [k0_pay5, k0_pay2]
  rfl

end Cert.ReferenceIdeal.Hand

end
-- ==== Proof.ReferenceProduct.lean ====
/-
  The product as the reference's body computes it over the extended reals, entry by entry.
-/
module

public import proofs.«01_k».proof.Proof.Gen.ReferenceIdeal.Frame
public import proofs.«01_k».proof.Proof.Spec

@[expose] public section

set_option maxRecDepth 16384

noncomputable section

namespace Cert.ReferenceIdeal.Hand

open Idealize.ShloMosaic Cert.ReferenceIdeal Cert.ReferenceIdeal.Gen Cert.Exponent Cert.Spec

/-- An entry of the product, from codes `q` and scales `a` already computed. -/
theorem product_at (a : FVec Ideal S768x1 .f32) (q : FVec Ideal S768x2688 .fp8e4m3) (w : Vec Ideal S2688x12672 .fp8e4m3)
    (s : Vec Ideal S84x12672 .i8) (i : Fin 768) (j : Fin 12672) :
    k0_pay1 a q (k0_pay7 s) (k0_pay8 s) (k0_pay9 s) w (ix2 i j)
      = (∑ k : Fin 2688, q (ix2 i k) * (w (ix2 k j) * block (s (ix2 ⟨k.val / 32, by omega⟩ j)))) * a (ix2 i 0) := by
  unfold block
  pointwise [k0_pay1, k0_pay7, k0_pay8, k0_pay9, k0_pay6]
  rfl

end Cert.ReferenceIdeal.Hand

end
-- ==== Proof.ReferenceValue.lean ====
/-
  What the reference's three result arrays hold after its run, over the extended reals: the three results of the three
  arguments, whatever the arguments.
-/
module

public import proofs.«01_k».proof.Proof.ReferenceBlock
public import proofs.«01_k».proof.Proof.ReferenceProduct
public import proofs.«01_k».proof.Proof.Results
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Spec
open Idealize.ShloMosaic.Pipeline (Dat Cfg Window)

variable (m : (ℓ : Loc nD τ sig) → Buf (Elt Ideal) ℓ) (c : Dev nD)

/-- The three arguments. -/
abbrev argX : Vec Ideal X .bf16 := m ((c.tc : Thread nD τ).loc main_arg0)
abbrev argW : Vec Ideal W .fp8e4m3 := m ((c.tc : Thread nD τ).loc main_arg1)
abbrev argS : Vec Ideal S .i8 := m ((c.tc : Thread nD τ).loc main_arg2)

/-- The activations as the region finds them. -/
def acts : Vec Ideal S768x2688 .bf16 := V m c main_v0

/-- They are the argument's rows. -/
theorem acts_at (i : Fin 768) (k : Fin 2688) : acts m c (ix2 i k) = argX m c (ix3 0 i k) := by
  unfold acts
  entry_read
  pointwise

theorem acts_row (i : Fin 768) : (fun k => acts m c (ix2 i k)) = row (argX m c) i := funext (acts_at m c i)

/-! ## The one point's blocks are the whole arrays -/

theorem iblk0_eq (t : Fin cfg0.N) : iblk m c 0 t = acts m c := by
  unfold iblk acts
  funext j
  show V m c main_v0 _ = V m c main_v0 j
  refine congrArg _ (funext fun a => Fin.ext ?_)
  have e : ∀ t : Fin cfg0.N, win0_0.index t = ![0, 0] := (by decide +kernel : ∀ t : Fin grid0.N, _)
  match a with
  | 0 => blk_simp [e]
  | 1 => blk_simp [e]

theorem iblk1_eq (t : Fin cfg0.N) : iblk m c 1 t = argW m c := by
  unfold iblk
  funext j
  show V m c main_arg1 _ = _
  rw [V_main_arg1 m c]
  refine congrArg _ (funext fun a => Fin.ext ?_)
  have e : ∀ t : Fin cfg0.N, win0_1.index t = ![0, 0] := (by decide +kernel : ∀ t : Fin grid0.N, _)
  match a with
  | 0 => blk_simp [e]
  | 1 => blk_simp [e]

theorem iblk2_eq (t : Fin cfg0.N) : iblk m c 2 t = argS m c := by
  unfold iblk
  funext j
  show V m c main_arg2 _ = _
  rw [V_main_arg2 m c]
  refine congrArg _ (funext fun a => Fin.ext ?_)
  have e : ∀ t : Fin cfg0.N, win0_2.index t = ![0, 0] := (by decide +kernel : ∀ t : Fin grid0.N, _)
  match a with
  | 0 => blk_simp [e]
  | 1 => blk_simp [e]

/-! ## What the body leaves -/

theorem zero2 : (![0, 0] : Fin 2 → ℕ) = fun _ => 0 := by decide

theorem out5_eq (w : Vec Ideal S2688x12672 .fp8e4m3) (s : Vec Ideal S84x12672 .i8) :
    out0_5 (acts m c) w s = scales (argX m c) := by
  unfold out0_5 k0_pay10
  rw [View.canon_unit_zero zero2, View.ld_unit_zero zero2]
  funext z
  obtain ⟨i, l, rfl⟩ : ∃ (i : Fin 768) (l : Fin 1), z = ix2 i l := ⟨z 0, z 1, eq_ix2 z⟩
  obtain rfl : l = 0 := Subsingleton.elim _ _
  refine (scale_at (acts m c) i).trans ?_
  rw [acts_row]
  rfl

theorem out4_eq (w : Vec Ideal S2688x12672 .fp8e4m3) (s : Vec Ideal S84x12672 .i8) :
    out0_4 (acts m c) w s = codes (argX m c) := by
  unfold out0_4 k0_pay11
  rw [View.canon_unit_zero zero2, View.ld_unit_zero zero2]
  funext z
  obtain ⟨i, l, rfl⟩ : ∃ (i : Fin 768) (l : Fin 2688), z = ix2 i l := ⟨z 0, z 1, eq_ix2 z⟩
  refine (code_at (acts m c) i l).trans ?_
  rw [acts_row]
  rfl

theorem out3_eq : out0_3 (acts m c) (argW m c) (argS m c) = products (argX m c) (argW m c) (argS m c) := by
  unfold out0_3 k0_pay10 k0_pay11
  rw [View.canon_unit_zero zero2, View.ld_unit_zero zero2, View.ld_unit_zero zero2, View.ld_unit_zero zero2]
  funext z
  obtain ⟨i, j, rfl⟩ : ∃ (i : Fin 768) (j : Fin 12672), z = ix2 i j := ⟨z 0, z 1, eq_ix2 z⟩
  refine (product_at _ _ _ _ i j).trans ?_
  simp only [scale_at, code_at, acts_row]
  rfl

/-! ## The arrays after the run -/

theorem whole3 : win0_3.WholeAt ⟨0, by decide⟩ := by decide +kernel
theorem whole4 : win0_4.WholeAt ⟨0, by decide⟩ := by decide +kernel
theorem whole5 : win0_5.WholeAt ⟨0, by decide⟩ := by decide +kernel

theorem final3 : (dats m 0 c).arrAt 3 cfg0.N = products (argX m c) (argW m c) (argS m c) := by
  refine (dats m 0 c).arrAt_eq_of_after_last 3 ⟨0, by decide⟩ whole3 _ fun j => ?_
  have e : (dats m 0 c).after 3 ⟨0, by decide⟩ = products (argX m c) (argW m c) (argS m c) := by
    rw [after0_3, iblk0_eq, iblk1_eq, iblk2_eq, out3_eq]
  exact congrFun e j

theorem final4 : (dats m 0 c).arrAt 4 cfg0.N = codes (argX m c) := by
  refine (dats m 0 c).arrAt_eq_of_after_last 4 ⟨0, by decide⟩ whole4 _ fun j => ?_
  have e : (dats m 0 c).after 4 ⟨0, by decide⟩ = codes (argX m c) := by
    rw [after0_4, iblk0_eq, out4_eq]
  exact congrFun e j

theorem final5 : (dats m 0 c).arrAt 5 cfg0.N = scales (argX m c) := by
  refine (dats m 0 c).arrAt_eq_of_after_last 5 ⟨0, by decide⟩ whole5 _ fun j => ?_
  have e : (dats m 0 c).after 5 ⟨0, by decide⟩ = scales (argX m c) := by
    rw [after0_5, iblk0_eq, out5_eq]
  exact congrFun e j

variable (ρ : Dev nD → PrngReg)

/-- The reference runs, leaves the three results in its result arrays, and its arguments as they were. -/
theorem run_value : θ_run defs (onTc (τ := τ) (main (F := Ideal))) ⟨m, fun _ => 0, ρ⟩ fun r => ∀ c : Dev nD,
    r.2.mem ((c.tc : Thread nD τ).loc main_v1_0) = products (argX m c) (argW m c) (argS m c)
      ∧ r.2.mem ((c.tc : Thread nD τ).loc main_v1_1) = codes (argX m c)
      ∧ r.2.mem ((c.tc : Thread nD τ).loc main_v1_2) = scales (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Hand

end
-- ==== Proof.Range.lean ====
/-
  The precondition, entry by entry.
-/
module

public import proofs.«01_k».proof.Pre_x_in_range
public import proofs.«01_k».proof.Proof.Results
public import Idealize.ShloMosaic.Lib.IdealHost

@[expose] public section

noncomputable section

namespace Cert.Spec

open Idealize.ShloMosaic

/-- The precondition's shapes fit. -/
theorem preFacts : Cert.Pre_x_in_range.Facts := ⟨by decide⟩

/-- Where the precondition's function is 1 everywhere, every entry is in range. -/
theorem inRange_of_pre [Cert.Pre_x_in_range.Facts] (x : Vec Ideal X .bf16) (w : Vec Ideal W .fp8e4m3) (s : Vec Ideal S .i8)
    (h : Cert.Pre_x_in_range.fn (F := Ideal) x w s = fun _ => 1#1) (z : X.Idx) : InRange (x z) := by
  have hz := congrFun h z
  have inf : Ideal.ofBits .bf16 0x7F80#16 = ⊤ := by simp [Ideal.ofBits, Ideal.ieee]
  have e : Cert.Pre_x_in_range.fn (F := Ideal) x w s z
      = IntOp.ori (BitVec.ofBool (decide (max (x z) (-x z) ≤ Ideal.ofBits .bf16 0x7F7F#16)))
          (BitVec.ofBool (decide (max (x z) (-x z) = Ideal.ofBits .bf16 0x7F80#16))) := rfl
  rw [e, inf] at hz
  have g : ∀ a b : Bool, IntOp.ori (BitVec.ofBool a) (BitVec.ofBool b) = 1#1 → a = true ∨ b = true := by decide
  exact (g _ _ hz).imp of_decide_eq_true of_decide_eq_true

end Cert.Spec

end
-- ==== Proof.lean ====
/-
  The certificate.  The two programs' frames, and the equation: over the extended reals, where every activation is in
  range, kernel and reference leave the same product, codes and scales.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run
public import proofs.«01_k».proof.Proof.KernelRun
public import proofs.«01_k».proof.Proof.KernelValue
public import proofs.«01_k».proof.Proof.ReferenceValue
public import proofs.«01_k».proof.Proof.Range

@[expose] public section

noncomputable section

namespace Cert.Proof

open Idealize.ShloMosaic Idealize.SL.Sem Cert.Spec

/-- Kernel and reference, from memories with the same arguments, end with the same three results. -/
theorem algebraic : algebraic_KernelIdeal_ReferenceIdeal_pre_x_in_range (hKernelIdeal := KernelIdeal.Gen.facts)
    (hReferenceIdeal := ReferenceIdeal.Gen.facts) (hPre_x_in_range := preFacts) := by
  letI := KernelIdeal.Gen.facts
  letI := ReferenceIdeal.Gen.facts
  letI := preFacts
  intro m g m' g' hpre hargs
  have hX : ∀ c z, InRange (KernelIdeal.Hand.argX m c z) := fun c z => inRange_of_pre _ _ _ (hpre c) z
  refine ⟨fun c => products (KernelIdeal.Hand.argX m c) (KernelIdeal.Hand.argW m c) (KernelIdeal.Hand.argS m c),
    fun c => codes (KernelIdeal.Hand.argX m c), fun c => scales (KernelIdeal.Hand.argX m c), ?_, ?_⟩
  · exact (θ_run _ _ _).mono (fun r h c => ⟨KernelIdeal.Hand.products_end m c (hX c) h.1, KernelIdeal.Hand.codes_end m c (hX c) h.1,
      KernelIdeal.Hand.scales_end m c (hX c) h.1, KernelIdeal.Hand.args_of m h.1 c⟩) (KernelIdeal.Hand.run_main m g)
  · refine (θ_run _ _ _).mono (fun r h c => ?_) (ReferenceIdeal.Hand.run_value m' g')
    have e0 : ReferenceIdeal.Hand.argX m' c = KernelIdeal.Hand.argX m c := (hargs c).1
    have e1 : ReferenceIdeal.Hand.argW m' c = KernelIdeal.Hand.argW m c := (hargs c).2.1
    have e2 : ReferenceIdeal.Hand.argS m' c = KernelIdeal.Hand.argS m c := (hargs c).2.2
    have hc := h c
    rw [e0, e1, e2] at hc
    exact hc

/-- Everything the certificate claims. -/
theorem claim : Cert.Claim :=
  ⟨Cert.Kernel.Gen.facts, Cert.KernelIdeal.Gen.facts, Cert.ReferenceIdeal.Gen.facts, preFacts,
    fun m g _ => Cert.Kernel.Hand.run_frame m g,
    fun m g _ => Cert.KernelIdeal.Hand.run_frame m g,
    fun m g _ => Cert.KernelIdeal.Hand.run_frame m g,
    fun m g _ => Cert.ReferenceIdeal.Gen.frame m g,
    fun m g _ => Cert.ReferenceIdeal.Gen.frame m g,
    trivial, algebraic⟩

end Cert.Proof

end
